-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "gelu_c3" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_v71) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "gelu_c3" .f32 0x3D122279#32 ((80338380498831 / 2251799813685248 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_arguments.lean ====
abbrev S16384x1536 : Shape := ⟨2, ![16384, 1536]⟩
abbrev S_ : Shape := ⟨0, ![]⟩
abbrev S64 : Shape := ⟨1, ![64]⟩
abbrev S128 : Shape := ⟨1, ![128]⟩

class Facts : Prop where
  bitsLt_bf16_f32 : FTy.bits .bf16 < FTy.bits .f32
  bcast_S_S16384x1536 : S_.BroadcastsInDim S16384x1536 (![] : Fin 0 → Fin S16384x1536.rank)
  bcast_S_S64 : S_.BroadcastsInDim S64 (![] : Fin 0 → Fin S64.rank)

variable [Facts]

def fn {F : FTy → Type} [FloatOps F] (main_arg0 : FVec F S16384x1536 .bf16) (main_arg1 : FVec F S_ .f32) (main_arg2 : FVec F S64 .f32) (main_arg3 : FVec F S64 .f32) (main_arg4 : FVec F S64 .f32) (main_arg5 : FVec F S64 .f32) (main_arg6 : FVec F S128 .f32) : IVec S16384x1536 1 × IVec S_ 1 × IVec S64 1 × IVec S64 1 × IVec S64 1 × IVec S64 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S_ .f32 := Host.absf main_arg1
  let main_cst_0 : FVec F S_ .f32 := constant S_ .f32 0x7F800000#32
  let main_v5 : IVec S_ 1 := cmpf .olt main_v4 main_cst_0
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v3, main_v5, main_v8, main_v11, main_v14, main_v17)
-- ==== Kernel.lean ====
abbrev S16384x1536 : Shape := ⟨2, ![16384, 1536]⟩
abbrev S_ : Shape := ⟨0, ![]⟩
abbrev S64 : Shape := ⟨1, ![64]⟩
abbrev S128 : Shape := ⟨1, ![128]⟩
abbrev S4 : Shape := ⟨1, ![4]⟩
abbrev S1 : Shape := ⟨1, ![1]⟩
abbrev S6 : Shape := ⟨1, ![6]⟩
abbrev S1x64 : Shape := ⟨2, ![1, 64]⟩
abbrev S4x64 : Shape := ⟨2, ![4, 64]⟩
abbrev S1x128 : Shape := ⟨2, ![1, 128]⟩
abbrev S16384x512 : Shape := ⟨2, ![16384, 512]⟩
abbrev S256x128 : Shape := ⟨2, ![256, 128]⟩
abbrev S4096x128 : Shape := ⟨2, ![4096, 128]⟩
abbrev S512x128 : Shape := ⟨2, ![512, 128]⟩
abbrev S6x512x1024 : Shape := ⟨3, ![6, 512, 1024]⟩
abbrev S4096x256 : Shape := ⟨2, ![4096, 256]⟩
abbrev S512x1024 : Shape := ⟨2, ![512, 1024]⟩
abbrev S512x1 : Shape := ⟨2, ![512, 1]⟩
abbrev S512x256 : Shape := ⟨2, ![512, 256]⟩
abbrev S1x512x1024 : Shape := ⟨3, ![1, 512, 1024]⟩
abbrev S1024x128 : Shape := ⟨2, ![1024, 128]⟩
abbrev S512 : Shape := ⟨1, ![512]⟩
abbrev S1024x256 : Shape := ⟨2, ![1024, 256]⟩
abbrev S1x1 : Shape := ⟨2, ![1, 1]⟩
abbrev S256 : Shape := ⟨1, ![256]⟩
abbrev S256x1 : Shape := ⟨2, ![256, 1]⟩

abbrev nBuf : Space → Nat
  | .hbm => 34
  | .vmem => 23
  | .smem => 1
  | _ => 0

abbrev bufTy : (tb : Table) → Fin (tcTables nBuf tb) → BufTy
  | .hbm, ⟨0, _⟩ => ⟨S16384x1536, .bf16⟩
  | .hbm, ⟨1, _⟩ => ⟨S_, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S6, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S4x64, .f32⟩
  | .hbm, ⟨32, _⟩ => ⟨S1x128, .f32⟩
  | .hbm, ⟨33, _⟩ => ⟨S16384x512, .bf16⟩
  | .local _ .vmem, ⟨0, _⟩ => ⟨S4x64, .f32⟩
  | .local _ .vmem, ⟨1, _⟩ => ⟨S256x128, .bf16⟩
  | .local _ .vmem, ⟨2, _⟩ => ⟨S256x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S6x512x1024, .f32⟩
  | .local _ .vmem, ⟨12, _⟩ => ⟨S4096x256, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x256, .f32⟩
  | .local _ .smem, ⟨0, _⟩ => ⟨S6, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_22 : BitVec 32) (c0_i32_23 : BitVec 32) : Fin 3 → Nat :=
  let arg2 : BitVec 32 := BitVec.ofNat 32 (i 2).val
  let c256_i32 : BitVec 32 := 256#32
  let v2 : BitVec 32 := Scalar.muli arg2 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c1024_i32 : BitVec 32 := 1024#32
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v49 : BitVec 1 := Scalar.cmpi .sgt v19 c0_i32_22
  let c0_i32_30 : BitVec 32 := 0#32
  let v50 : BitVec 1 := Scalar.cmpi .slt v19 c0_i32_23
  let c1_i32_29 : BitVec 32 := 1#32
  let c2_i32 : BitVec 32 := 2#32
  let c4_i32 : BitVec 32 := 4#32
  let c0_i32_24 : BitVec 32 := 0#32
  let v51 : BitVec 1 := Scalar.cmpi .eq c4_i32 c0_i32_24
  let c1_i32_25 : BitVec 32 := 1#32
  let v52 : BitVec 32 := Scalar.select v51 c1_i32_25 c4_i32
  let v53 : BitVec 32 := Scalar.remsi arg2 v52
  let c0_i32_27 : BitVec 32 := 0#32
  let v55 : BitVec 1 := Scalar.cmpi .slt v53 c0_i32_27
  let c0_i32_28 : BitVec 32 := 0#32
  let v56 : BitVec 1 := Scalar.cmpi .slt v52 c0_i32_28
  let v57 : BitVec 1 := Scalar.xori v55 v56
  let c0_i32_26 : BitVec 32 := 0#32
  let v54 : BitVec 1 := Scalar.cmpi .ne v53 c0_i32_26
  let v58 : BitVec 1 := Scalar.andi v57 v54
  let v59 : BitVec 32 := Scalar.addi v53 v52
  let v60 : BitVec 32 := Scalar.select v58 v59 v53
  let v61 : BitVec 32 := Scalar.addi c2_i32 v60
  let v62 : BitVec 32 := Scalar.select v50 c1_i32_29 v61
  let v63 : BitVec 32 := Scalar.select v49 c0_i32_30 v62
  let v64 : Index := Scalar.indexCast v63
  let c0_31 : Index := 0#32
  let c0_32 : Index := 0#32
  ![v64.toNat, 0, 0]
def k0_off2_at (r : Fin 4) : BitVec 32 × BitVec 32 :=
  if r.val < 2 then
    if r.val < 1 then
      (0#32, 0#32)
    else
      (1#32, 1#32)
  else
    if r.val < 3 then
      (2#32, 2#32)
    else
      (3#32, 3#32)
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x1536 : Shape := ⟨2, ![16384, 1536]⟩
abbrev S_ : Shape := ⟨0, ![]⟩
abbrev S64 : Shape := ⟨1, ![64]⟩
abbrev S128 : Shape := ⟨1, ![128]⟩
abbrev S4x4096x1536 : Shape := ⟨3, ![4, 4096, 1536]⟩
abbrev S4x4096x512 : Shape := ⟨3, ![4, 4096, 512]⟩
abbrev S4x4096x4x2x64 : Shape := ⟨5, ![4, 4096, 4, 2, 64]⟩
abbrev S4x4096x4x128 : Shape := ⟨4, ![4, 4096, 4, 128]⟩
abbrev S4 : Shape := ⟨1, ![4]⟩
abbrev S4x4x2x4096x4096 : Shape := ⟨5, ![4, 4, 2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4x1x1x1 : Shape := ⟨5, ![1, 4, 1, 1, 1]⟩
abbrev S1x1x1x4096x4096 : Shape := ⟨5, ![1, 1, 1, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 100
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S_, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S16384x1536, .f32⟩
  | .hbm, ⟨8, _⟩ => ⟨S4x4096x1536, .f32⟩
  | .hbm, ⟨9, _⟩ => ⟨S4x4096x512, .f32⟩
  | .hbm, ⟨10, _⟩ => ⟨S4x4096x4x2x64, .f32⟩
  | .hbm, ⟨11, _⟩ => ⟨S4x4096x512, .f32⟩
  | .hbm, ⟨12, _⟩ => ⟨S4x4096x4x2x64, .f32⟩
  | .hbm, ⟨13, _⟩ => ⟨S4x4096x512, .f32⟩
  | .hbm, ⟨14, _⟩ => ⟨S4x4096x4x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4x4x2x4096x4096, .f32⟩
  | .hbm, ⟨40, _⟩ => ⟨S4096, .i32⟩
  | .hbm, ⟨41, _⟩ => ⟨S4096x1, .i32⟩
  | .hbm, ⟨42, _⟩ => ⟨S1x4096, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S4096x4096, .i32⟩
  | .hbm, ⟨47, _⟩ => ⟨S4096x4096, .f32⟩
  | .hbm, ⟨48, _⟩ => ⟨S1x4x1x1x1, .f32⟩
  | .hbm, ⟨49, _⟩ => ⟨S1x1x1x4096x4096, .f32⟩
  | .hbm, ⟨50, _⟩ => ⟨S1x4x1x4096x4096, .f32⟩
  | .hbm, ⟨51, _⟩ => ⟨S1x4x1x4096x4096, .f32⟩
  | .hbm, ⟨52, _⟩ => ⟨S1x4x1x4096x4096, .f32⟩
  | .hbm, ⟨53, _⟩ => ⟨S4x4x2x4096x4096, .f32⟩
  | .hbm, ⟨54, _⟩ => ⟨S4x4x2x4096x4096, .f32⟩
  | .hbm, ⟨55, _⟩ => ⟨S_, .f32⟩
  | .hbm, ⟨56, _⟩ => ⟨S4x4x2x4096, .f32⟩
  | .hbm, ⟨57, _⟩ => ⟨S_, .f32⟩
  | .hbm, ⟨58, _⟩ => ⟨S4x4x2x4096, .f32⟩
  | .hbm, ⟨59, _⟩ => ⟨S4x4x2x4096, .f32⟩
  | .hbm, ⟨60, _⟩ => ⟨S4x4x2x4096x1, .f32⟩
  | .hbm, ⟨61, _⟩ => ⟨S4x4x2x4096x4096, .f32⟩
  | .hbm, ⟨62, _⟩ => ⟨S4x4x2x4096x4096, .f32⟩
  | .hbm, ⟨63, _⟩ => ⟨S4x4x2x4096x4096, .f32⟩
  | .hbm, ⟨64, _⟩ => ⟨S_, .f32⟩
  | .hbm, ⟨65, _⟩ => ⟨S4x4x2x4096, .f32⟩
  | .hbm, ⟨66, _⟩ => ⟨S4x4x2x4096x1, .f32⟩
  | .hbm, ⟨67, _⟩ => ⟨S4x4x2x4096x4096, .f32⟩
  | .hbm, ⟨68, _⟩ => ⟨S4x4x2x4096x4096, .f32⟩
  | .hbm, ⟨69, _⟩ => ⟨S4x4x1x4096x4096, .f32⟩
  | .hbm, ⟨70, _⟩ => ⟨S4x4x4096x4096, .f32⟩
  | .hbm, ⟨71, _⟩ => ⟨S4x4x1x4096x4096, .f32⟩
  | .hbm, ⟨72, _⟩ => ⟨S4x4x4096x4096, .f32⟩
  | .hbm, ⟨73, _⟩ => ⟨S4x4x4096x4096, .f32⟩
  | .hbm, ⟨74, _⟩ => ⟨S4x4x4096x4096, .f32⟩
  | .hbm, ⟨75, _⟩ => ⟨S4x4x4096x4096, .f32⟩
  | .hbm, ⟨76, _⟩ => ⟨S4x4x128x4096, .f32⟩
  | .hbm, ⟨77, _⟩ => ⟨S4x4096x4x128, .f32⟩
  | .hbm, ⟨78, _⟩ => ⟨S4x4096x4x128, .f32⟩
  | .hbm, ⟨79, _⟩ => ⟨S_, .f32⟩
  | .hbm, ⟨80, _⟩ => ⟨S4x4096x4, .f32⟩
  | .hbm, ⟨81, _⟩ => ⟨S4x4096x4x1, .f32⟩
  | .hbm, ⟨82, _⟩ => ⟨S_, .f32⟩
  | .hbm, ⟨83, _⟩ => ⟨S4x4096x4x1, .f32⟩
  | .hbm, ⟨84, _⟩ => ⟨S4x4096x4x1, .f32⟩
  | .hbm, ⟨85, _⟩ => ⟨S_, .f32⟩
  | .hbm, ⟨86, _⟩ => ⟨S4x4096x4x1, .f32⟩
  | .hbm, ⟨87, _⟩ => ⟨S4x4096x4x1, .f32⟩
  | .hbm, ⟨88, _⟩ => ⟨S4x4096x4x1, .f32⟩
  | .hbm, ⟨89, _⟩ => ⟨S4x4096x4x128, .f32⟩
  | .hbm, ⟨90, _⟩ => ⟨S4x4096x4x128, .f32⟩
  | .hbm, ⟨91, _⟩ => ⟨S1x1x1x128, .f32⟩
  | .hbm, ⟨92, _⟩ => ⟨S4x4096x4x128, .f32⟩
  | .hbm, ⟨93, _⟩ => ⟨S4x4096x4x128, .f32⟩
  | .hbm, ⟨94, _⟩ => ⟨S_, .f32⟩
  | .hbm, ⟨95, _⟩ => ⟨S_, .f32⟩
  | .hbm, ⟨96, _⟩ => ⟨S4x4096x4x128, .f32⟩
  | .hbm, ⟨97, _⟩ => ⟨S4x4096x4x128, .f32⟩
  | .hbm, ⟨98, _⟩ => ⟨S16384x512, .f32⟩
  | .hbm, ⟨99, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x6144 : Shape := ⟨2, ![1024, 6144]⟩
abbrev S3x1024 : Shape := ⟨2, ![3, 1024]⟩
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S1x3072 : Shape := ⟨2, ![1, 3072]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S16384x1536 : Shape := ⟨2, ![16384, 1536]⟩
abbrev S16384x512 : Shape := ⟨2, ![16384, 512]⟩
abbrev S16384x3072 : Shape := ⟨2, ![16384, 3072]⟩
abbrev S256x1024 : Shape := ⟨2, ![256, 1024]⟩
abbrev S256x1536 : Shape := ⟨2, ![256, 1536]⟩
abbrev S256x512 : Shape := ⟨2, ![256, 512]⟩
abbrev S256x3072 : Shape := ⟨2, ![256, 3072]⟩
abbrev S1024x1536 : Shape := ⟨2, ![1024, 1536]⟩
abbrev S1024x1024 : Shape := ⟨2, ![1024, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1024x512 : Shape := ⟨2, ![1024, 512]⟩
abbrev S1024x3072 : Shape := ⟨2, ![1024, 3072]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x6144, .f32⟩
  | .hbm, ⟨2, _⟩ => ⟨S3x1024, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S16384x1024, .f32⟩
  | .hbm, ⟨8, _⟩ => ⟨S1024x6144, .bf16⟩
  | .hbm, ⟨9, _⟩ => ⟨S1x3072, .f32⟩
  | .hbm, ⟨10, _⟩ => ⟨S1x512, .f32⟩
  | .hbm, ⟨11, _⟩ => ⟨S1x512, .f32⟩
  | .hbm, ⟨12, _⟩ => ⟨S4x128x128, .bf16⟩
  | .hbm, ⟨13, _⟩ => ⟨S128x4, .f32⟩
  | .hbm, ⟨14, _⟩ => ⟨S128x4x128, .f32⟩
  | .hbm, ⟨15, _⟩ => ⟨S128x512, .f32⟩
  | .hbm, ⟨16, _⟩ => ⟨S16384x1536, .bf16⟩
  | .hbm, ⟨17, _⟩ => ⟨S16384x512, .bf16⟩
  | .hbm, ⟨18, _⟩ => ⟨S16384x512, .f32⟩
  | .hbm, ⟨19, _⟩ => ⟨S16384x3072, .f32⟩
  | .local _ .vmem, ⟨0, _⟩ => ⟨S256x1024, .f32⟩
  | .local _ .vmem, ⟨1, _⟩ => ⟨S256x1024, .f32⟩
  | .local _ .vmem, ⟨2, _⟩ => ⟨S1024x6144, .bf16⟩
  | .local _ .vmem, ⟨3, _⟩ => ⟨S1x3072, .f32⟩
  | .local _ .vmem, ⟨4, _⟩ => ⟨S1x512, .f32⟩
  | .local _ .vmem, ⟨5, _⟩ => ⟨S1x512, .f32⟩
  | .local _ .vmem, ⟨6, _⟩ => ⟨S4x128x128, .bf16⟩
  | .local _ .vmem, ⟨7, _⟩ => ⟨S128x512, .f32⟩
  | .local _ .vmem, ⟨8, _⟩ => ⟨S256x1536, .bf16⟩
  | .local _ .vmem, ⟨9, _⟩ => ⟨S256x1536, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x3072, .f32⟩
  | .local _ .vmem, ⟨15, _⟩ => ⟨S256x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "gelu_c3" => some ((80338380498831 / 2251799813685248 : ℝ) : EReal)
  | _ => none
-- ==== Reference2Ideal.lean ====
abbrev S4x4096x1024 : Shape := ⟨3, ![4, 4096, 1024]⟩
abbrev S1024x6144 : Shape := ⟨2, ![1024, 6144]⟩
abbrev S3x1024 : Shape := ⟨2, ![3, 1024]⟩
abbrev S512 : Shape := ⟨1, ![512]⟩
abbrev S4x128x128 : Shape := ⟨3, ![4, 128, 128]⟩
abbrev S4x128 : Shape := ⟨2, ![4, 128]⟩
abbrev S4x4096x6144 : Shape := ⟨3, ![4, 4096, 6144]⟩
abbrev S4x4096x512 : Shape := ⟨3, ![4, 4096, 512]⟩
abbrev S4x4096x3072 : Shape := ⟨3, ![4, 4096, 3072]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x32x128x4x128 : Shape := ⟨5, ![4, 32, 128, 4, 128]⟩
abbrev S4x4x32x128x128 : Shape := ⟨5, ![4, 4, 32, 128, 128]⟩
abbrev S128x4 : Shape := ⟨2, ![128, 4]⟩
abbrev S1x1x128x4x1 : Shape := ⟨5, ![1, 1, 128, 4, 1]⟩
abbrev S4x4096x3x1024 : Shape := ⟨4, ![4, 4096, 3, 1024]⟩
abbrev S1x1x3x1024 : Shape := ⟨4, ![1, 1, 3, 1024]⟩
abbrev S4x4096x1536 : Shape := ⟨3, ![4, 4096, 1536]⟩
abbrev S16384x1536 : Shape := ⟨2, ![16384, 1536]⟩
abbrev S16384x512 : Shape := ⟨2, ![16384, 512]⟩
abbrev S16384x3072 : Shape := ⟨2, ![16384, 3072]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6144, .f32⟩
  | .hbm, ⟨2, _⟩ => ⟨S3x1024, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4x4096x6144, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S4x4096x512, .f32⟩
  | .hbm, ⟨13, _⟩ => ⟨S4x4096x3072, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x512, .f32⟩
  | .hbm, ⟨35, _⟩ => ⟨S4x4096x512, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x512, .f32⟩
  | .hbm, ⟨56, _⟩ => ⟨S4x4096x512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S1x1x512, .f32⟩
  | .hbm, ⟨61, _⟩ => ⟨S4x4096x512, .f32⟩
  | .hbm, ⟨62, _⟩ => ⟨S4x4096x512, .f32⟩
  | .hbm, ⟨63, _⟩ => ⟨S4x32x128x4x128, .f32⟩
  | .hbm, ⟨64, _⟩ => ⟨S4x4x32x128x128, .f32⟩
  | .hbm, ⟨65, _⟩ => ⟨S4x32x128x4x128, .f32⟩
  | .hbm, ⟨66, _⟩ => ⟨S128x4, .f32⟩
  | .hbm, ⟨67, _⟩ => ⟨S1x1x128x4x1, .f32⟩
  | .hbm, ⟨68, _⟩ => ⟨S4x32x128x4x128, .f32⟩
  | .hbm, ⟨69, _⟩ => ⟨S4x32x128x4x128, .f32⟩
  | .hbm, ⟨70, _⟩ => ⟨S4x4096x512, .f32⟩
  | .hbm, ⟨71, _⟩ => ⟨S4x4096x512, .f32⟩
  | .hbm, ⟨72, _⟩ => ⟨S4x4096x3x1024, .f32⟩
  | .hbm, ⟨73, _⟩ => ⟨S1x1x3x1024, .f32⟩
  | .hbm, ⟨74, _⟩ => ⟨S4x4096x3x1024, .f32⟩
  | .hbm, ⟨75, _⟩ => ⟨S4x4096x3x1024, .f32⟩
  | .hbm, ⟨76, _⟩ => ⟨S4x4096x3x1024, .f32⟩
  | .hbm, ⟨77, _⟩ => ⟨S4x4096x3x1024, .f32⟩
  | .hbm, ⟨78, _⟩ => ⟨S_, .f32⟩
  | .hbm, ⟨79, _⟩ => ⟨S4x4096x3x1024, .f32⟩
  | .hbm, ⟨80, _⟩ => ⟨S4x4096x3x1024, .f32⟩
  | .hbm, ⟨81, _⟩ => ⟨S_, .f32⟩
  | .hbm, ⟨82, _⟩ => ⟨S4x4096x3x1024, .f32⟩
  | .hbm, ⟨83, _⟩ => ⟨S4x4096x3x1024, .f32⟩
  | .hbm, ⟨84, _⟩ => ⟨S4x4096x1536, .f32⟩
  | .hbm, ⟨85, _⟩ => ⟨S4x4096x1536, .bf16⟩
  | .hbm, ⟨86, _⟩ => ⟨S16384x1536, .bf16⟩
  | .hbm, ⟨87, _⟩ => ⟨S4x4096x512, .bf16⟩
  | .hbm, ⟨88, _⟩ => ⟨S16384x512, .bf16⟩
  | .hbm, ⟨89, _⟩ => ⟨S16384x512, .f32⟩
  | .hbm, ⟨90, _⟩ => ⟨S16384x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel3.lean ====
abbrev S4x4096x1024 : Shape := ⟨3, ![4, 4096, 1024]⟩
abbrev S16384x512 : Shape := ⟨2, ![16384, 512]⟩
abbrev S16384x3072 : Shape := ⟨2, ![16384, 3072]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S16384x1024 : Shape := ⟨2, ![16384, 1024]⟩
abbrev S1x512 : Shape := ⟨2, ![1, 512]⟩
abbrev S1x1024 : Shape := ⟨2, ![1, 1024]⟩
abbrev S512x1024 : Shape := ⟨2, ![512, 1024]⟩
abbrev S512x3072 : Shape := ⟨2, ![512, 3072]⟩
abbrev S1x512x1024 : Shape := ⟨3, ![1, 512, 1024]⟩
abbrev S512x1 : Shape := ⟨2, ![512, 1]⟩

abbrev nBuf : Space → Nat
  | .hbm => 23
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x3072, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S16384x1024, .f32⟩
  | .hbm, ⟨15, _⟩ => ⟨S1x512, .f32⟩
  | .hbm, ⟨16, _⟩ => ⟨S512x512, .bf16⟩
  | .hbm, ⟨17, _⟩ => ⟨S1x512, .f32⟩
  | .hbm, ⟨18, _⟩ => ⟨S3x512x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x3072, .f32⟩
  | .local _ .vmem, ⟨13, _⟩ => ⟨S512x3072, .f32⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S3x512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3Ideal.lean ====
variable {F : FTy → Type} [FloatOps F] [Named F]
def κ : String → Option EReal := fun
  | "gelu_c3" => some ((80338380498831 / 2251799813685248 : ℝ) : EReal)
  | _ => none
-- ==== Reference3Ideal.lean ====
abbrev S4x4096x1024 : Shape := ⟨3, ![4, 4096, 1024]⟩
abbrev S16384x512 : Shape := ⟨2, ![16384, 512]⟩
abbrev S16384x3072 : Shape := ⟨2, ![16384, 3072]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S4x4096x512 : Shape := ⟨3, ![4, 4096, 512]⟩
abbrev S1x1x512 : Shape := ⟨3, ![1, 1, 512]⟩
abbrev S_ : Shape := ⟨0, ![]⟩
abbrev S4x4096x1x512 : Shape := ⟨4, ![4, 4096, 1, 512]⟩
abbrev S4x4096x3x512 : Shape := ⟨4, ![4, 4096, 3, 512]⟩
abbrev S3x1024x4x4096 : Shape := ⟨4, ![3, 1024, 4, 4096]⟩
abbrev S4x4096x3x1024 : Shape := ⟨4, ![4, 4096, 3, 1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x3072, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S4x4096x512, .f32⟩
  | .hbm, ⟨15, _⟩ => ⟨S1x1x512, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S_, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S_, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S1x1x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096x512, .f32⟩
  | .hbm, ⟨47, _⟩ => ⟨S4x4096x512, .f32⟩
  | .hbm, ⟨48, _⟩ => ⟨S_, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S16384x512, .f32⟩
  | .hbm, ⟨53, _⟩ => ⟨S4x4096x512, .f32⟩
  | .hbm, ⟨54, _⟩ => ⟨S16384x512, .f32⟩
  | .hbm, ⟨55, _⟩ => ⟨S4x4096x512, .f32⟩
  | .hbm, ⟨56, _⟩ => ⟨S4x4096x1x512, .f32⟩
  | .hbm, ⟨57, _⟩ => ⟨S4x4096x1x512, .f32⟩
  | .hbm, ⟨58, _⟩ => ⟨S4x4096x1x512, .f32⟩
  | .hbm, ⟨59, _⟩ => ⟨S4x4096x3x512, .f32⟩
  | .hbm, ⟨60, _⟩ => ⟨S3x1024x4x4096, .f32⟩
  | .hbm, ⟨61, _⟩ => ⟨S4x4096x3x1024, .f32⟩
  | .hbm, ⟨62, _⟩ => ⟨S4x4096x3x1024, .f32⟩
  | .hbm, ⟨63, _⟩ => ⟨S4x4096x3x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | .hbm, ⟨98, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Proof.Out.lean ====
/-
  What one grid point of the attention kernel computes, as a function of the contents it reads: the masked query
  pair, the bias tiles, the values beside a column of ones, four uniform stages of the running softmax over the
  key chunks, and the closing division, difference and normalisation.
-/
module

public import proofs.«01_k».proof.Proof.Gen.KernelIdeal.Frame
public import proofs.«01_k».proof.Proof.Gen.KernelIdeal.Skeleton

@[expose] public section

set_option maxRecDepth 16384

noncomputable section

namespace Cert.Proof.Attn

open Cert.KernelIdeal Cert.KernelIdeal.Gen
open Idealize.ShloMosaic

variable {F : FTy → Type} [FloatOps F]

/-- The key chunk a query tile lies in, as the kernel computes it (a floor division by four tiles). -/
def chunkOf (i : grid0.Coords) : BitVec 32 :=
  let row : BitVec 32 := Scalar.muli (BitVec.ofNat 32 (i 2).val) 256#32
  let quo : BitVec 32 := Scalar.divsi row 1024#32
  let sgn : BitVec 32 := Scalar.subi (Scalar.extui (Scalar.cmpi .sgt row 0#32)) (Scalar.extui (Scalar.cmpi .slt row 0#32))
  let sgd : BitVec 32 := Scalar.subi (Scalar.extui (Scalar.cmpi .sgt 1024#32 0#32)) (Scalar.extui (Scalar.cmpi .slt 1024#32 0#32))
  let adj : BitVec 1 := Scalar.andi (Scalar.cmpi .ne sgn sgd) (Scalar.cmpi .ne (Scalar.remsi row 1024#32) 0#32)
  Scalar.select adj (Scalar.subi quo 1#32) quo

/-- The part of the bias that is constant over a tile: minus the slope times the distance of the tile's corner, or
    zero on the chunk of the diagonal. -/
def tileC (i : grid0.Coords) (j off : BitVec 32) (sl : F .f32) : F .f32 :=
  Scalar.select (Scalar.cmpi .eq (chunkOf i) j) (Scalar.ofBits .f32 0x00000000#32)
    (Scalar.mulf (Scalar.subf (Scalar.ofBits .f32 0x00000000#32) sl)
      (Scalar.sitofp .f32 (Scalar.absi (Scalar.subi (Scalar.muli (BitVec.ofNat 32 (i 2).val) 256#32) off))))

/-- A chunk's scores: the query pair against the chunk's keys, less the bias tile. -/
def scoreV (qs : FVec F S512x128 .bf16) (kb : FVec F S1024x128 .bf16) (bb : FVec F S1x512x1024 .f32) : FVec F S512x1024 .f32 :=
  shapeCast S512x1024
    (subf (matmul dot_S512x128_S1024x128_S512x1024_1_1_0_0_n_n none qs kb (constant S512x1024 .f32 0x00000000#32))
      (shapeCast S512x1024 bb shapeCasts_S1x512x1024_S512x1024)) shapeCasts_S512x1024_S512x1024

/-- A chunk's row maxima, with the tile's constant put back. -/
def maxV (s : FVec F S512x1024 .f32) (tc : F .f32) : FVec F S512x1 .f32 :=
  shapeCast S512x1
    (addf (shapeCast S512x1 (multiReduction .maximumf [1] S512 s 0xFF800000#32 reduces_S512x1024_S512 (.inl rfl) rfl) shapeCasts_S512_S512x1)
      (broadcast S512x1 tc)) shapeCasts_S512x1_S512x1

/-- The factor that carries the earlier sums over to the new maximum. -/
def scaleV (m mx : FVec F S512x1 .f32) : FVec F S512x1 .f32 :=
  shapeCast S512x1 (exp (subf m (maximumf m mx))) shapeCasts_S512x1_S512x1

/-- A chunk's weights, relative to the running maximum `m'`. -/
def weightV (m' : FVec F S512x1 .f32) (tc : F .f32) (s : FVec F S512x1024 .f32) : FVec F S512x1024 .bf16 :=
  shapeCast S512x1024
    (truncf .bf16 (exp (subf s (broadcastTo S512x1024 (subf m' (broadcast S512x1 tc)) broadcasts_S512x1_S512x1024))) bitsLt_bf16_f32)
    shapeCasts_S512x1024_S512x1024

/-- The running sums after a chunk. -/
def accV (al : FVec F S512x1 .f32) (acc : FVec F S512x256 .f32) (p : FVec F S512x1024 .bf16) (vb : FVec F S1024x256 .bf16) : FVec F S512x256 .f32 :=
  shapeCast S512x256
    (addf (mulf (broadcastTo S512x256 al broadcasts_S512x1_S512x256) acc)
      (matmul dot_S512x1024_S1024x256_S512x256_1_0_0_1_n_n none p vb (constant S512x256 .f32 0x00000000#32))) shapeCasts_S512x256_S512x256

/-- The new running maximum of a chunk of scores `s`. -/
def runMax (tc : F .f32) (s : FVec F S512x1024 .f32) (m : FVec F S512x1 .f32) : FVec F S512x1 .f32 :=
  shapeCast S512x1 (maximumf m (maxV s tc)) shapeCasts_S512x1_S512x1

/-- The new running sums of a chunk of scores `s` and values `vb`. -/
def runAcc (tc : F .f32) (s : FVec F S512x1024 .f32) (vb : FVec F S1024x256 .bf16) (m : FVec F S512x1 .f32) (acc : FVec F S512x256 .f32) :
    FVec F S512x256 .f32 :=
  accV (scaleV m (maxV s tc)) acc (weightV (maximumf m (maxV s tc)) tc s) vb

/-- The query pair of a tile: its rows twice, the upper copy keeping the first 64 lanes, the lower the last 64. -/
def pairOf (x5 : S256x128.Idx → Elt F .bf16) : S512x128.Idx → Elt F .bf16 :=
  View.canon [⟨Rect.unit (s := S512x128) ![256, 0] S256x128.size inb_S512x128_S256x128_256_0,
      k0_pay15 (k0_pay14 (View.ld x5 (Rect.unit (s := S256x128) ![0, 0] S256x128.size inb_S256x128_S256x128_0_0)))⟩,
    ⟨Rect.unit (s := S512x128) ![0, 0] S256x128.size inb_S512x128_S256x128_0_0,
      k0_pay13 (View.ld x5 (Rect.unit (s := S256x128) ![0, 0] S256x128.size inb_S256x128_S256x128_0_0))⟩]

/-- The query pair as the score products load it. -/
def queryOf (x5 : S256x128.Idx → Elt F .bf16) : FVec F S512x128 .bf16 :=
  View.ld (pairOf x5) (Rect.unit (s := S512x128) ![0, 0] S512x128.size inb_S512x128_S512x128_0_0)

/-- The six bias tiles of a head of slope `sl`: before, after, and across the diagonal at the four offsets of a
    query tile in its chunk. -/
def biasPieces (sl : F .f32) : List (View.Piece (Elt F) S6x512x1024 .f32) :=
  [⟨Rect.unit (s := S6x512x1024) ![5, 0, 0] S1x512x1024.size inb_S6x512x1024_S1x512x1024_5_0_0, k0_pay9 sl k0_pay2⟩,
   ⟨Rect.unit (s := S6x512x1024) ![4, 0, 0] S1x512x1024.size inb_S6x512x1024_S1x512x1024_4_0_0, k0_pay8 sl k0_pay7⟩,
   ⟨Rect.unit (s := S6x512x1024) ![3, 0, 0] S1x512x1024.size inb_S6x512x1024_S1x512x1024_3_0_0, k0_pay6 sl⟩,
   ⟨Rect.unit (s := S6x512x1024) ![2, 0, 0] S1x512x1024.size inb_S6x512x1024_S1x512x1024_2_0_0, k0_pay5 sl⟩,
   ⟨Rect.unit (s := S6x512x1024) ![1, 0, 0] S1x512x1024.size inb_S6x512x1024_S1x512x1024_1_0_0, k0_pay4 sl⟩,
   ⟨Rect.unit (s := S6x512x1024) ![0, 0, 0] S1x512x1024.size inb_S6x512x1024_S1x512x1024_0_0_0, k0_pay3 sl⟩]

/-- The bias tiles as one array. -/
def biasOf (sl : F .f32) : S6x512x1024.Idx → Elt F .f32 := View.canon (biasPieces sl)

/-- A head's values beside columns of ones, as the two pieces the kernel stores. -/
def valPieces (x7 : S4096x128.Idx → Elt F .bf16) : List (View.Piece (Elt F) S4096x256 .bf16) :=
  [⟨Rect.unit (s := S4096x256) ![0, 128] S4096x128.size inb_S4096x256_S4096x128_0_128, k0_pay11⟩,
   ⟨Rect.unit (s := S4096x256) ![0, 0] S4096x128.size inb_S4096x256_S4096x128_0_0,
     k0_pay10 (View.ld x7 (Rect.unit (s := S4096x128) ![0, 0] S4096x128.size inb_S4096x128_S4096x128_0_0))⟩]

/-- The values beside the ones as one array. -/
def valsOf (x7 : S4096x128.Idx → Elt F .bf16) : S4096x256.Idx → Elt F .bf16 := View.canon (valPieces x7)

/-- The slope of the point's head, from the table of scalars. -/
def slopeOf (i : grid0.Coords) (x3 : S6.Idx → Elt F .f32) : F .f32 :=
  View.ld x3 (Rect.unit (s := S6) (k0_off1 i) S1.size (k0_off1_inb i)) (Shape.Idx.first (numel1_S1 ▸ Nat.one_pos))

/-- The scores of chunk `j`. -/
def scores (i : grid0.Coords) (x5 : S256x128.Idx → Elt F .bf16) (x6 : S4096x128.Idx → Elt F .bf16) (B : S6x512x1024.Idx → Elt F .f32) : Fin 4 → FVec F S512x1024 .f32
  | 0 => scoreV (queryOf x5) (View.ld x6 (Rect.unit (s := S4096x128) ![0, 0] S1024x128.size inb_S4096x128_S1024x128_0_0))
      (View.ld B (Rect.unit (s := S6x512x1024) (k0_off2 i 0#32 0#32) S1x512x1024.size (k0_off2_inb i 0)))
  | 1 => scoreV (queryOf x5) (View.ld x6 (Rect.unit (s := S4096x128) ![1024, 0] S1024x128.size inb_S4096x128_S1024x128_1024_0))
      (View.ld B (Rect.unit (s := S6x512x1024) (k0_off2 i 1#32 1#32) S1x512x1024.size (k0_off2_inb i 1)))
  | 2 => scoreV (queryOf x5) (View.ld x6 (Rect.unit (s := S4096x128) ![2048, 0] S1024x128.size inb_S4096x128_S1024x128_2048_0))
      (View.ld B (Rect.unit (s := S6x512x1024) (k0_off2 i 2#32 2#32) S1x512x1024.size (k0_off2_inb i 2)))
  | 3 => scoreV (queryOf x5) (View.ld x6 (Rect.unit (s := S4096x128) ![3072, 0] S1024x128.size inb_S4096x128_S1024x128_3072_0))
      (View.ld B (Rect.unit (s := S6x512x1024) (k0_off2 i 3#32 3#32) S1x512x1024.size (k0_off2_inb i 3)))

/-- The constants of the four tiles. -/
def tileConst (i : grid0.Coords) (sl : F .f32) : Fin 4 → F .f32
  | 0 => tileC i 0#32 0#32 sl
  | 1 => tileC i 1#32 1024#32 sl
  | 2 => tileC i 2#32 2048#32 sl
  | 3 => tileC i 3#32 3072#32 sl

/-- The values of chunk `j`. -/
def valChunk (VA : S4096x256.Idx → Elt F .bf16) : Fin 4 → FVec F S1024x256 .bf16
  | 0 => View.ld VA (Rect.unit (s := S4096x256) ![0, 0] S1024x256.size inb_S4096x256_S1024x256_0_0)
  | 1 => View.ld VA (Rect.unit (s := S4096x256) ![1024, 0] S1024x256.size inb_S4096x256_S1024x256_1024_0)
  | 2 => View.ld VA (Rect.unit (s := S4096x256) ![2048, 0] S1024x256.size inb_S4096x256_S1024x256_2048_0)
  | 3 => View.ld VA (Rect.unit (s := S4096x256) ![3072, 0] S1024x256.size inb_S4096x256_S1024x256_3072_0)

/-- The running maximum before chunk `j` (after the last, at `j = 4`). -/
def maxAt (i : grid0.Coords) (sl : F .f32) (S : Fin 4 → FVec F S512x1024 .f32) : Nat → FVec F S512x1 .f32
  | 0 => k0_pay16
  | j + 1 => if h : j < 4 then runMax (tileConst i sl ⟨j, h⟩) (S ⟨j, h⟩) (maxAt i sl S j) else maxAt i sl S j

/-- The running sums before chunk `j` (after the last, at `j = 4`). -/
def accAt (i : grid0.Coords) (sl : F .f32) (S : Fin 4 → FVec F S512x1024 .f32) (V : Fin 4 → FVec F S1024x256 .bf16) : Nat → FVec F S512x256 .f32
  | 0 => k0_pay17
  | j + 1 => if h : j < 4 then runAcc (tileConst i sl ⟨j, h⟩) (S ⟨j, h⟩) (V ⟨j, h⟩) (maxAt i sl S j) (accAt i sl S V j) else accAt i sl S V j

/-- The block a grid point leaves: the two softmax quotients, their difference under lambda, and its normalisation. -/
def attnOut (i : grid0.Coords) (x3 : S6.Idx → Elt F .f32) (x4 : S4x64.Idx → Elt F .f32) (x5 : S256x128.Idx → Elt F .bf16)
    (x6 : S4096x128.Idx → Elt F .bf16) (x8 : S1x128.Idx → Elt F .f32) (B : S6x512x1024.Idx → Elt F .f32) (VA : S4096x256.Idx → Elt F .bf16) :
    FVec F S256x128 .bf16 :=
  let acc := accAt i (slopeOf i x3) (scores i x5 x6 B) (valChunk VA) 4
  k0_pay1 (k0_pay54 (View.ld x4 (Rect.unit (s := S4x64) ![0, 0] S4x64.size inb_S4x64_S4x64_0_0))
    (View.ld x3 (Rect.unit (s := S6) ![4] S1.size inb_S6_S1_4) (Shape.Idx.first (numel1_S1 ▸ Nat.one_pos)))
    (View.ld acc (Rect.unit (s := S512x256) ![0, 0] S512x128.size inb_S512x256_S512x128_0_0))
    (View.ld acc (Rect.unit (s := S512x256) ![0, 128] S512x128.size inb_S512x256_S512x128_0_128))
    (View.ld x8 (Rect.unit (s := S1x128) ![0, 0] S1x128.size inb_S1x128_S1x128_0_0))
    (View.ld x3 (Rect.unit (s := S6) ![5] S1.size inb_S6_S1_5) (Shape.Idx.first (numel1_S1 ▸ Nat.one_pos))))

end Cert.Proof.Attn

end
-- ==== Proof.BodyDefs.lean ====
/-
  How the contents of the kernel's buffers are held, and what the body leaves of them at one grid point: `attnOut`
  in the output block, with the bias tiles and the extended values kept.
-/
module

public import proofs.«01_k».proof.Proof.Out
public import Idealize.ShloMosaic.Lib.Pipeline.ReadBack
public import Idealize.ShloMosaic.Lib.Pipeline.ValueKit

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Contents of the buffer under a memref, at core `c`. -/
abbrev Bf (c : Dev nD) {sp : Space} {S : Shape} {e : EltTy} (M : Memref sig .tc sp S e) : Type := Buf (Elt F) (M.view.loc (c : Thread nD τ))
/-- The whole buffer under a memref, held with contents `f`. -/
abbrev pt (c : Dev nD) {sp : Space} {S : Shape} {e : EltTy} (M : Memref sig .tc sp S e) (f : Bf (F := F) c M) : sProp 𝕄 :=
  M.view.loc (c : Thread nD τ) ↦{fullShare} f
/-- The whole buffer under a memref, read as `x` through it. -/
abbrev holds (c : Dev nD) {sp : Space} {S : Shape} {e : EltTy} (M : Memref sig .tc sp S e) (x : S.Idx → Elt F e) : sProp 𝕄 :=
  iprop(∃ f : Bf (F := F) c M, ⌜M.view.read (Elt F) f = x⌝ ∗ pt c M f)
/-- The whole buffer under a memref, with some contents. -/
abbrev some' (c : Dev nD) {sp : Space} {S : Shape} {e : EltTy} (M : Memref sig .tc sp S e) : sProp 𝕄 :=
  iprop(∃ f : Bf (F := F) c M, pt c M f)

/-- What the body leaves: the windows it reads as they were, its output block, the bias tiles `B` and the extended
    values `VA`, and the other scratches with some contents. -/
def leftBy (c : Dev nD) (i : grid0.Coords) (M3 : Memref sig .tc .smem S6 .f32) (M4 : Memref sig .tc .vmem S4x64 .f32) (M5 : Memref sig .tc .vmem S256x128 .bf16) (M6 : Memref sig .tc .vmem S4096x128 .bf16) (M7 : Memref sig .tc .vmem S4096x128 .bf16) (M8 : Memref sig .tc .vmem S1x128 .f32) (M9 : Memref sig .tc .vmem S256x128 .bf16)
    (f3 : Bf (F := F) c M3) (f4 : Bf (F := F) c M4) (f5 : Bf (F := F) c M5) (f6 : Bf (F := F) c M6) (f7 : Bf (F := F) c M7) (f8 : Bf (F := F) c M8)
    (B : S6x512x1024.Idx → Elt F .f32) (VA : S4096x256.Idx → Elt F .bf16) : sProp 𝕄 :=
  iprop(pt c M3 f3 ∗ pt c M4 f4 ∗ pt c M5 f5 ∗ pt c M6 f6 ∗ pt c M7 f7 ∗ pt c M8 f8
    ∗ holds c M9 (attnOut i (M3.view.read (Elt F) f3) (M4.view.read (Elt F) f4) (M5.view.read (Elt F) f5) (M6.view.read (Elt F) f6) (M8.view.read (Elt F) f8) B VA)
    ∗ some' c (Memref.whole cc0_scratch0) ∗ holds c (Memref.whole cc0_scratch1) B ∗ holds c (Memref.whole cc0_scratch2) VA
    ∗ some' c (Memref.whole cc0_scratch3) ∗ some' c (Memref.whole cc0_scratch4) ∗ some' c (Memref.whole cc0_scratch5) ∗ some' c (Memref.whole cc0_scratch6) ∗ some' c (Memref.whole cc0_scratch7) ∗ some' c (Memref.whole cc0_scratch8) ∗ some' c (Memref.whole cc0_scratch9) ∗ some' c (Memref.whole cc0_scratch10) ∗ some' c (Memref.whole cc0_scratch11) ∗ some' c (Memref.whole cc0_scratch12))

/-- A read-back through a rectangle is the rectangle of what the pieces make. -/
theorem readCov_ld {s : Shape} {e : EltTy} {κ : Kind} {sp : Space} (v : View Cert.KernelIdeal.sig κ sp s e) (L : List (View.Piece (Elt F) s e)) (r : Rect s) :
    v.readCov L r.toLoadRect = View.ld (View.canon L) r := View.readCov_eq_canon' _ _ _

theorem valChunk_0 (VA : S4096x256.Idx → Elt F .bf16) : valChunk VA 0 = View.ld VA (Rect.unit (s := S4096x256) ![0, 0] S1024x256.size inb_S4096x256_S1024x256_0_0) := by
  simp only [valChunk]
theorem valChunk_1 (VA : S4096x256.Idx → Elt F .bf16) : valChunk VA 1 = View.ld VA (Rect.unit (s := S4096x256) ![1024, 0] S1024x256.size inb_S4096x256_S1024x256_1024_0) := by
  simp only [valChunk]
theorem valChunk_2 (VA : S4096x256.Idx → Elt F .bf16) : valChunk VA 2 = View.ld VA (Rect.unit (s := S4096x256) ![2048, 0] S1024x256.size inb_S4096x256_S1024x256_2048_0) := by
  simp only [valChunk]
theorem valChunk_3 (VA : S4096x256.Idx → Elt F .bf16) : valChunk VA 3 = View.ld VA (Rect.unit (s := S4096x256) ![3072, 0] S1024x256.size inb_S4096x256_S1024x256_3072_0) := by
  simp only [valChunk]
theorem valsOf_eq (x : S4096x128.Idx → Elt F .bf16) : valsOf x = View.canon (valPieces x) := by rw [valsOf]
theorem biasOf_eq (sl : F .f32) : biasOf sl = View.canon (biasPieces sl) := by rw [biasOf]

end Cert.Proof.Attn

end
-- ==== Proof.Body.lean ====
/-
  The body of the attention kernel run at a later query tile of a head, where it computes from the bias tiles and the
  extended values it finds.
-/
module

public import proofs.«01_k».proof.Proof.BodyDefs
public import Idealize.ShloMosaic.Lib.Pipeline.ReadBack
public import Idealize.ShloMosaic.Lib.Pipeline.ValueKit

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body at a later query tile: it computes from the bias tiles and the extended values it finds. -/
theorem runB (c : Dev nD) (i : grid0.Coords) (M3 : Memref sig .tc .smem S6 .f32) (hM3 : M3.IsWhole) (M4 : Memref sig .tc .vmem S4x64 .f32) (hM4 : M4.IsWhole) (M5 : Memref sig .tc .vmem S256x128 .bf16) (hM5 : M5.IsWhole) (M6 : Memref sig .tc .vmem S4096x128 .bf16) (hM6 : M6.IsWhole) (M7 : Memref sig .tc .vmem S4096x128 .bf16) (hM7 : M7.IsWhole) (M8 : Memref sig .tc .vmem S1x128 .f32) (hM8 : M8.IsWhole) (M9 : Memref sig .tc .vmem S256x128 .bf16) (hM9 : M9.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9)
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (Q : PUnit → sProp 𝕄)
    (hc : ¬ (Scalar.cmpi .ne (Scalar.extui (Scalar.cmpi .eq (BitVec.ofNat 32 (i 2).val) 0#32)) 0#32 = 1#1)) :
    iprop(pt c M3 f3 ∗ pt c M4 f4 ∗ pt c M5 f5 ∗ pt c M6 f6 ∗ pt c M7 f7 ∗ pt c M8 f8 ∗ pt c M9 f9 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12
      ∗ (leftBy c i M3 M4 M5 M6 M7 M8 M9 f3 f4 f5 f6 f7 f8 ((Memref.whole cc0_scratch1).view.read (Elt F) s1) ((Memref.whole cc0_scratch2).view.read (Elt F) s2) -∗ Q ⟨⟩))
    ⊢ wp frame (wpE (defs₀ (F := F)) Variants.none c none) Set.univ
        (cc0_diff_attention i M3 hM3 M4 hM4 M5 hM5 M6 hM6 M7 hM7 M8 hM8 M9 hM9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H3, H4, H5, H6, H7, H8, H9, S0, S1, S2, S3, S4, S5, S6, S7, S8, S9, S10, S11, S12, Hk⟩
  sl_exec!
  have e46 : (_root_.Cert.Proof.Attn.runB.sl.v46 c M5 f5) = queryOf (M5.view.read (Elt F) f5) := by
    delta _root_.Cert.Proof.Attn.runB.sl.v46; rw [View.readCov_eq_canon']; rfl
  have eS0 : (_root_.Cert.Proof.Attn.runB.sl.v71 c i M5 M6 f5 f6 s1) = (scores i (M5.view.read (Elt F) f5) (M6.view.read (Elt F) f6) ((Memref.whole cc0_scratch1).view.read (Elt F) s1) 0) := by
    refine (View.readCov_cons_toLoadRect _ _ _ _).trans ?_
    change _ = scoreV (queryOf (M5.view.read (Elt F) f5)) (View.ld (M6.view.read (Elt F) f6) (Rect.unit (s := S4096x128) ![0, 0] S1024x128.size inb_S4096x128_S1024x128_0_0)) (View.ld ((Memref.whole cc0_scratch1).view.read (Elt F) s1) (Rect.unit (s := S6x512x1024) (k0_off2 i 0#32 0#32) S1x512x1024.size (k0_off2_inb i 0)))
    rw [← e46]; rfl
  have eS1 : (_root_.Cert.Proof.Attn.runB.sl.v141 c i M5 M6 f5 f6 s1) = (scores i (M5.view.read (Elt F) f5) (M6.view.read (Elt F) f6) ((Memref.whole cc0_scratch1).view.read (Elt F) s1) 1) := by
    refine (View.readCov_cons_toLoadRect _ _ _ _).trans ?_
    change _ = scoreV (queryOf (M5.view.read (Elt F) f5)) (View.ld (M6.view.read (Elt F) f6) (Rect.unit (s := S4096x128) ![1024, 0] S1024x128.size inb_S4096x128_S1024x128_1024_0)) (View.ld ((Memref.whole cc0_scratch1).view.read (Elt F) s1) (Rect.unit (s := S6x512x1024) (k0_off2 i 1#32 1#32) S1x512x1024.size (k0_off2_inb i 1)))
    rw [← e46]; rfl
  have eS2 : (_root_.Cert.Proof.Attn.runB.sl.v222 c i M5 M6 f5 f6 s1) = (scores i (M5.view.read (Elt F) f5) (M6.view.read (Elt F) f6) ((Memref.whole cc0_scratch1).view.read (Elt F) s1) 2) := by
    refine (View.readCov_cons_toLoadRect _ _ _ _).trans ?_
    change _ = scoreV (queryOf (M5.view.read (Elt F) f5)) (View.ld (M6.view.read (Elt F) f6) (Rect.unit (s := S4096x128) ![2048, 0] S1024x128.size inb_S4096x128_S1024x128_2048_0)) (View.ld ((Memref.whole cc0_scratch1).view.read (Elt F) s1) (Rect.unit (s := S6x512x1024) (k0_off2 i 2#32 2#32) S1x512x1024.size (k0_off2_inb i 2)))
    rw [← e46]; rfl
  have eS3 : (_root_.Cert.Proof.Attn.runB.sl.v_1 c i M5 M6 f5 f6 s1) = (scores i (M5.view.read (Elt F) f5) (M6.view.read (Elt F) f6) ((Memref.whole cc0_scratch1).view.read (Elt F) s1) 3) := by
    refine (View.readCov_cons_toLoadRect _ _ _ _).trans ?_
    change _ = scoreV (queryOf (M5.view.read (Elt F) f5)) (View.ld (M6.view.read (Elt F) f6) (Rect.unit (s := S4096x128) ![3072, 0] S1024x128.size inb_S4096x128_S1024x128_3072_0)) (View.ld ((Memref.whole cc0_scratch1).view.read (Elt F) s1) (Rect.unit (s := S6x512x1024) (k0_off2 i 3#32 3#32) S1x512x1024.size (k0_off2_inb i 3)))
    rw [← e46]; rfl
  have eM0 : (_root_.Cert.Proof.Attn.runB.sl.v87) = (maxAt i (slopeOf i (M3.view.read (Elt F) f3)) (scores i (M5.view.read (Elt F) f5) (M6.view.read (Elt F) f6) ((Memref.whole cc0_scratch1).view.read (Elt F) s1)) 0) := by
    refine (View.readCov_cons_toLoadRect _ _ _ _).trans ?_
    rfl
  have eC0 : (_root_.Cert.Proof.Attn.runB.sl.v158) = (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 0) := by
    refine (View.readCov_cons_toLoadRect _ _ _ _).trans ?_
    rfl
  have eX0 : (_root_.Cert.Proof.Attn.runB.sl.v88 c i M3 M5 M6 f3 f5 f6 s1) = (maxV (scores i (M5.view.read (Elt F) f5) (M6.view.read (Elt F) f6) ((Memref.whole cc0_scratch1).view.read (Elt F) s1) 0) (tileConst i (slopeOf i (M3.view.read (Elt F) f3)) 0)) := by
    refine (View.readCov_cons_toLoadRect _ _ _ _).trans ?_
    rw [← eS0]; rfl
  have eA0 : (_root_.Cert.Proof.Attn.runB.sl.v157 c i M3 M5 M6 f3 f5 f6 s1) = scaleV (maxAt i (slopeOf i (M3.view.read (Elt F) f3)) (scores i (M5.view.read (Elt F) f5) (M6.view.read (Elt F) f6) ((Memref.whole cc0_scratch1).view.read (Elt F) s1)) 0) (maxV (scores i (M5.view.read (Elt F) f5) (M6.view.read (Elt F) f6) ((Memref.whole cc0_scratch1).view.read (Elt F) s1) 0) (tileConst i (slopeOf i (M3.view.read (Elt F) f3)) 0)) := by
    refine (View.readCov_cons_toLoadRect _ _ _ _).trans ?_
    rw [← eM0, ← eX0]; rfl
  have eP0 : (_root_.Cert.Proof.Attn.runB.sl.v161 c i M3 M5 M6 f3 f5 f6 s1) = weightV (maximumf (maxAt i (slopeOf i (M3.view.read (Elt F) f3)) (scores i (M5.view.read (Elt F) f5) (M6.view.read (Elt F) f6) ((Memref.whole cc0_scratch1).view.read (Elt F) s1)) 0) (maxV (scores i (M5.view.read (Elt F) f5) (M6.view.read (Elt F) f6) ((Memref.whole cc0_scratch1).view.read (Elt F) s1) 0) (tileConst i (slopeOf i (M3.view.read (Elt F) f3)) 0))) (tileConst i (slopeOf i (M3.view.read (Elt F) f3)) 0) (scores i (M5.view.read (Elt F) f5) (M6.view.read (Elt F) f6) ((Memref.whole cc0_scratch1).view.read (Elt F) s1) 0) := by
    refine (View.readCov_cons_toLoadRect _ _ _ _).trans ?_
    rw [← eM0, ← eX0, ← eS0]; rfl
  have eM1 : (_root_.Cert.Proof.Attn.runB.sl.v c i M3 M5 M6 f3 f5 f6 s1) = (maxAt i (slopeOf i (M3.view.read (Elt F) f3)) (scores i (M5.view.read (Elt F) f5) (M6.view.read (Elt F) f6) ((Memref.whole cc0_scratch1).view.read (Elt F) s1)) 1) := by
    refine (View.readCov_cons_toLoadRect _ _ _ _).trans ?_
    change _ = shapeCast S512x1 (maximumf (maxAt i (slopeOf i (M3.view.read (Elt F) f3)) (scores i (M5.view.read (Elt F) f5) (M6.view.read (Elt F) f6) ((Memref.whole cc0_scratch1).view.read (Elt F) s1)) 0) (maxV (scores i (M5.view.read (Elt F) f5) (M6.view.read (Elt F) f6) ((Memref.whole cc0_scratch1).view.read (Elt F) s1) 0) (tileConst i (slopeOf i (M3.view.read (Elt F) f3)) 0))) shapeCasts_S512x1_S512x1
    rw [← eM0, ← eX0]; rfl
  have eC1 : (_root_.Cert.Proof.Attn.runB.sl.v239 c i M3 M5 M6 f3 f5 f6 s1 s2) = (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 1) := by
    refine (View.readCov_cons_toLoadRect _ _ _ _).trans ?_
    change _ = accV (scaleV (maxAt i (slopeOf i (M3.view.read (Elt F) f3)) (scores i (M5.view.read (Elt F) f5) (M6.view.read (Elt F) f6) ((Memref.whole cc0_scratch1).view.read (Elt F) s1)) 0) (maxV (scores i (M5.view.read (Elt F) f5) (M6.view.read (Elt F) f6) ((Memref.whole cc0_scratch1).view.read (Elt F) s1) 0) (tileConst i (slopeOf i (M3.view.read (Elt F) f3)) 0))) (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 0) (weightV (maximumf (maxAt i (slopeOf i (M3.view.read (Elt F) f3)) (scores i (M5.view.read (Elt F) f5) (M6.view.read (Elt F) f6) ((Memref.whole cc0_scratch1).view.read (Elt F) s1)) 0) (maxV (scores i (M5.view.read (Elt F) f5) (M6.view.read (Elt F) f6) ((Memref.whole cc0_scratch1).view.read (Elt F) s1) 0) (tileConst i (slopeOf i (M3.view.read (Elt F) f3)) 0))) (tileConst i (slopeOf i (M3.view.read (Elt F) f3)) 0) (scores i (M5.view.read (Elt F) f5) (M6.view.read (Elt F) f6) ((Memref.whole cc0_scratch1).view.read (Elt F) s1) 0)) ((valChunk ((Memref.whole cc0_scratch2).view.read (Elt F) s2)) 0)
    rw [← eA0, ← eC0, ← eP0]; rfl
  have eX1 : (_root_.Cert.Proof.Attn.runB.sl.v169 c i M3 M5 M6 f3 f5 f6 s1) = (maxV (scores i (M5.view.read (Elt F) f5) (M6.view.read (Elt F) f6) ((Memref.whole cc0_scratch1).view.read (Elt F) s1) 1) (tileConst i (slopeOf i (M3.view.read (Elt F) f3)) 1)) := by
    refine (View.readCov_cons_toLoadRect _ _ _ _).trans ?_
    rw [← eS1]; rfl
  have eA1 : (_root_.Cert.Proof.Attn.runB.sl.v238 c i M3 M5 M6 f3 f5 f6 s1) = scaleV (maxAt i (slopeOf i (M3.view.read (Elt F) f3)) (scores i (M5.view.read (Elt F) f5) (M6.view.read (Elt F) f6) ((Memref.whole cc0_scratch1).view.read (Elt F) s1)) 1) (maxV (scores i (M5.view.read (Elt F) f5) (M6.view.read (Elt F) f6) ((Memref.whole cc0_scratch1).view.read (Elt F) s1) 1) (tileConst i (slopeOf i (M3.view.read (Elt F) f3)) 1)) := by
    refine (View.readCov_cons_toLoadRect _ _ _ _).trans ?_
    rw [← eM1, ← eX1]; rfl
  have eP1 : (_root_.Cert.Proof.Attn.runB.sl.v242 c i M3 M5 M6 f3 f5 f6 s1) = weightV (maximumf (maxAt i (slopeOf i (M3.view.read (Elt F) f3)) (scores i (M5.view.read (Elt F) f5) (M6.view.read (Elt F) f6) ((Memref.whole cc0_scratch1).view.read (Elt F) s1)) 1) (maxV (scores i (M5.view.read (Elt F) f5) (M6.view.read (Elt F) f6) ((Memref.whole cc0_scratch1).view.read (Elt F) s1) 1) (tileConst i (slopeOf i (M3.view.read (Elt F) f3)) 1))) (tileConst i (slopeOf i (M3.view.read (Elt F) f3)) 1) (scores i (M5.view.read (Elt F) f5) (M6.view.read (Elt F) f6) ((Memref.whole cc0_scratch1).view.read (Elt F) s1) 1) := by
    refine (View.readCov_cons_toLoadRect _ _ _ _).trans ?_
    rw [← eM1, ← eX1, ← eS1]; rfl
  have eM2 : (_root_.Cert.Proof.Attn.runB.sl.v249 c i M3 M5 M6 f3 f5 f6 s1) = (maxAt i (slopeOf i (M3.view.read (Elt F) f3)) (scores i (M5.view.read (Elt F) f5) (M6.view.read (Elt F) f6) ((Memref.whole cc0_scratch1).view.read (Elt F) s1)) 2) := by
    refine (View.readCov_cons_toLoadRect _ _ _ _).trans ?_
    change _ = shapeCast S512x1 (maximumf (maxAt i (slopeOf i (M3.view.read (Elt F) f3)) (scores i (M5.view.read (Elt F) f5) (M6.view.read (Elt F) f6) ((Memref.whole cc0_scratch1).view.read (Elt F) s1)) 1) (maxV (scores i (M5.view.read (Elt F) f5) (M6.view.read (Elt F) f6) ((Memref.whole cc0_scratch1).view.read (Elt F) s1) 1) (tileConst i (slopeOf i (M3.view.read (Elt F) f3)) 1))) shapeCasts_S512x1_S512x1
    rw [← eM1, ← eX1]; rfl
  have eC2 : (_root_.Cert.Proof.Attn.runB.sl.v320 c i M3 M5 M6 f3 f5 f6 s1 s2) = (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 2) := by
    refine (View.readCov_cons_toLoadRect _ _ _ _).trans ?_
    change _ = accV (scaleV (maxAt i (slopeOf i (M3.view.read (Elt F) f3)) (scores i (M5.view.read (Elt F) f5) (M6.view.read (Elt F) f6) ((Memref.whole cc0_scratch1).view.read (Elt F) s1)) 1) (maxV (scores i (M5.view.read (Elt F) f5) (M6.view.read (Elt F) f6) ((Memref.whole cc0_scratch1).view.read (Elt F) s1) 1) (tileConst i (slopeOf i (M3.view.read (Elt F) f3)) 1))) (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 1) (weightV (maximumf (maxAt i (slopeOf i (M3.view.read (Elt F) f3)) (scores i (M5.view.read (Elt F) f5) (M6.view.read (Elt F) f6) ((Memref.whole cc0_scratch1).view.read (Elt F) s1)) 1) (maxV (scores i (M5.view.read (Elt F) f5) (M6.view.read (Elt F) f6) ((Memref.whole cc0_scratch1).view.read (Elt F) s1) 1) (tileConst i (slopeOf i (M3.view.read (Elt F) f3)) 1))) (tileConst i (slopeOf i (M3.view.read (Elt F) f3)) 1) (scores i (M5.view.read (Elt F) f5) (M6.view.read (Elt F) f6) ((Memref.whole cc0_scratch1).view.read (Elt F) s1) 1)) ((valChunk ((Memref.whole cc0_scratch2).view.read (Elt F) s2)) 1)
    rw [← eA1, ← eC1, ← eP1]; rfl
  have eX2 : (_root_.Cert.Proof.Attn.runB.sl.v250 c i M3 M5 M6 f3 f5 f6 s1) = (maxV (scores i (M5.view.read (Elt F) f5) (M6.view.read (Elt F) f6) ((Memref.whole cc0_scratch1).view.read (Elt F) s1) 2) (tileConst i (slopeOf i (M3.view.read (Elt F) f3)) 2)) := by
    refine (View.readCov_cons_toLoadRect _ _ _ _).trans ?_
    rw [← eS2]; rfl
  have eA2 : (_root_.Cert.Proof.Attn.runB.sl.v319 c i M3 M5 M6 f3 f5 f6 s1) = scaleV (maxAt i (slopeOf i (M3.view.read (Elt F) f3)) (scores i (M5.view.read (Elt F) f5) (M6.view.read (Elt F) f6) ((Memref.whole cc0_scratch1).view.read (Elt F) s1)) 2) (maxV (scores i (M5.view.read (Elt F) f5) (M6.view.read (Elt F) f6) ((Memref.whole cc0_scratch1).view.read (Elt F) s1) 2) (tileConst i (slopeOf i (M3.view.read (Elt F) f3)) 2)) := by
    refine (View.readCov_cons_toLoadRect _ _ _ _).trans ?_
    rw [← eM2, ← eX2]; rfl
  have eP2 : (_root_.Cert.Proof.Attn.runB.sl.v323 c i M3 M5 M6 f3 f5 f6 s1) = weightV (maximumf (maxAt i (slopeOf i (M3.view.read (Elt F) f3)) (scores i (M5.view.read (Elt F) f5) (M6.view.read (Elt F) f6) ((Memref.whole cc0_scratch1).view.read (Elt F) s1)) 2) (maxV (scores i (M5.view.read (Elt F) f5) (M6.view.read (Elt F) f6) ((Memref.whole cc0_scratch1).view.read (Elt F) s1) 2) (tileConst i (slopeOf i (M3.view.read (Elt F) f3)) 2))) (tileConst i (slopeOf i (M3.view.read (Elt F) f3)) 2) (scores i (M5.view.read (Elt F) f5) (M6.view.read (Elt F) f6) ((Memref.whole cc0_scratch1).view.read (Elt F) s1) 2) := by
    refine (View.readCov_cons_toLoadRect _ _ _ _).trans ?_
    rw [← eM2, ← eX2, ← eS2]; rfl
  have eM3 : (_root_.Cert.Proof.Attn.runB.sl.v330 c i M3 M5 M6 f3 f5 f6 s1) = (maxAt i (slopeOf i (M3.view.read (Elt F) f3)) (scores i (M5.view.read (Elt F) f5) (M6.view.read (Elt F) f6) ((Memref.whole cc0_scratch1).view.read (Elt F) s1)) 3) := by
    refine (View.readCov_cons_toLoadRect _ _ _ _).trans ?_
    change _ = shapeCast S512x1 (maximumf (maxAt i (slopeOf i (M3.view.read (Elt F) f3)) (scores i (M5.view.read (Elt F) f5) (M6.view.read (Elt F) f6) ((Memref.whole cc0_scratch1).view.read (Elt F) s1)) 2) (maxV (scores i (M5.view.read (Elt F) f5) (M6.view.read (Elt F) f6) ((Memref.whole cc0_scratch1).view.read (Elt F) s1) 2) (tileConst i (slopeOf i (M3.view.read (Elt F) f3)) 2))) shapeCasts_S512x1_S512x1
    rw [← eM2, ← eX2]; rfl
  have eC3 : (_root_.Cert.Proof.Attn.runB.sl.v360 c i M3 M5 M6 f3 f5 f6 s1 s2) = (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 3) := by
    refine (View.readCov_cons_toLoadRect _ _ _ _).trans ?_
    change _ = accV (scaleV (maxAt i (slopeOf i (M3.view.read (Elt F) f3)) (scores i (M5.view.read (Elt F) f5) (M6.view.read (Elt F) f6) ((Memref.whole cc0_scratch1).view.read (Elt F) s1)) 2) (maxV (scores i (M5.view.read (Elt F) f5) (M6.view.read (Elt F) f6) ((Memref.whole cc0_scratch1).view.read (Elt F) s1) 2) (tileConst i (slopeOf i (M3.view.read (Elt F) f3)) 2))) (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 2) (weightV (maximumf (maxAt i (slopeOf i (M3.view.read (Elt F) f3)) (scores i (M5.view.read (Elt F) f5) (M6.view.read (Elt F) f6) ((Memref.whole cc0_scratch1).view.read (Elt F) s1)) 2) (maxV (scores i (M5.view.read (Elt F) f5) (M6.view.read (Elt F) f6) ((Memref.whole cc0_scratch1).view.read (Elt F) s1) 2) (tileConst i (slopeOf i (M3.view.read (Elt F) f3)) 2))) (tileConst i (slopeOf i (M3.view.read (Elt F) f3)) 2) (scores i (M5.view.read (Elt F) f5) (M6.view.read (Elt F) f6) ((Memref.whole cc0_scratch1).view.read (Elt F) s1) 2)) ((valChunk ((Memref.whole cc0_scratch2).view.read (Elt F) s2)) 2)
    rw [← eA2, ← eC2, ← eP2]; rfl
  have eX3 : (_root_.Cert.Proof.Attn.runB.sl.v331 c i M3 M5 M6 f3 f5 f6 s1) = (maxV (scores i (M5.view.read (Elt F) f5) (M6.view.read (Elt F) f6) ((Memref.whole cc0_scratch1).view.read (Elt F) s1) 3) (tileConst i (slopeOf i (M3.view.read (Elt F) f3)) 3)) := by
    refine (View.readCov_cons_toLoadRect _ _ _ _).trans ?_
    rw [← eS3]; rfl
  have eA3 : (_root_.Cert.Proof.Attn.runB.sl.v359 c i M3 M5 M6 f3 f5 f6 s1) = scaleV (maxAt i (slopeOf i (M3.view.read (Elt F) f3)) (scores i (M5.view.read (Elt F) f5) (M6.view.read (Elt F) f6) ((Memref.whole cc0_scratch1).view.read (Elt F) s1)) 3) (maxV (scores i (M5.view.read (Elt F) f5) (M6.view.read (Elt F) f6) ((Memref.whole cc0_scratch1).view.read (Elt F) s1) 3) (tileConst i (slopeOf i (M3.view.read (Elt F) f3)) 3)) := by
    refine (View.readCov_cons_toLoadRect _ _ _ _).trans ?_
    rw [← eM3, ← eX3]; rfl
  have eP3 : (_root_.Cert.Proof.Attn.runB.sl.v363 c i M3 M5 M6 f3 f5 f6 s1) = weightV (maximumf (maxAt i (slopeOf i (M3.view.read (Elt F) f3)) (scores i (M5.view.read (Elt F) f5) (M6.view.read (Elt F) f6) ((Memref.whole cc0_scratch1).view.read (Elt F) s1)) 3) (maxV (scores i (M5.view.read (Elt F) f5) (M6.view.read (Elt F) f6) ((Memref.whole cc0_scratch1).view.read (Elt F) s1) 3) (tileConst i (slopeOf i (M3.view.read (Elt F) f3)) 3))) (tileConst i (slopeOf i (M3.view.read (Elt F) f3)) 3) (scores i (M5.view.read (Elt F) f5) (M6.view.read (Elt F) f6) ((Memref.whole cc0_scratch1).view.read (Elt F) s1) 3) := by
    refine (View.readCov_cons_toLoadRect _ _ _ _).trans ?_
    rw [← eM3, ← eX3, ← eS3]; rfl
  have h4 : (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 4) = accV (scaleV (maxAt i (slopeOf i (M3.view.read (Elt F) f3)) (scores i (M5.view.read (Elt F) f5) (M6.view.read (Elt F) f6) ((Memref.whole cc0_scratch1).view.read (Elt F) s1)) 3) (maxV (scores i (M5.view.read (Elt F) f5) (M6.view.read (Elt F) f6) ((Memref.whole cc0_scratch1).view.read (Elt F) s1) 3) (tileConst i (slopeOf i (M3.view.read (Elt F) f3)) 3))) (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 3) (weightV (maximumf (maxAt i (slopeOf i (M3.view.read (Elt F) f3)) (scores i (M5.view.read (Elt F) f5) (M6.view.read (Elt F) f6) ((Memref.whole cc0_scratch1).view.read (Elt F) s1)) 3) (maxV (scores i (M5.view.read (Elt F) f5) (M6.view.read (Elt F) f6) ((Memref.whole cc0_scratch1).view.read (Elt F) s1) 3) (tileConst i (slopeOf i (M3.view.read (Elt F) f3)) 3))) (tileConst i (slopeOf i (M3.view.read (Elt F) f3)) 3) (scores i (M5.view.read (Elt F) f5) (M6.view.read (Elt F) f6) ((Memref.whole cc0_scratch1).view.read (Elt F) s1) 3)) ((valChunk ((Memref.whole cc0_scratch2).view.read (Elt F) s2)) 3) := by
    rfl
  have eL : (_root_.Cert.Proof.Attn.runB.sl.v388 c i M3 M5 M6 f3 f5 f6 s1 s2) = View.ld (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 4) (Rect.unit (s := S512x256) ![0, 0] S512x128.size inb_S512x256_S512x128_0_0) := by
    refine (View.readCov_fill _ _ _ _ _ (by decide)).trans ?_
    rw [h4, ← eA3, ← eC3, ← eP3]; rfl
  have eR : (_root_.Cert.Proof.Attn.runB.sl.v389 c i M3 M5 M6 f3 f5 f6 s1 s2) = View.ld (accAt i (slopeOf i (M3.view.read (Elt F) f3)) (scores i (M5.view.read (Elt F) f5) (M6.view.read (Elt F) f6) ((Memref.whole cc0_scratch1).view.read (Elt F) s1)) (valChunk ((Memref.whole cc0_scratch2).view.read (Elt F) s2)) 4) (Rect.unit (s := S512x256) ![0, 128] S512x128.size inb_S512x256_S512x128_0_128) := by
    refine (View.readCov_fill _ _ _ _ _ (by decide)).trans ?_
    rw [h4, ← eA3, ← eC3, ← eP3]; rfl
  have eO : k0_pay1 (_root_.Cert.Proof.Attn.runB.sl.r_15 c i M3 M4 M5 M6 M8 f3 f4 f5 f6 f8 s1 s2) = attnOut i (M3.view.read (Elt F) f3) (M4.view.read (Elt F) f4) (M5.view.read (Elt F) f5) (M6.view.read (Elt F) f6) (M8.view.read (Elt F) f8) ((Memref.whole cc0_scratch1).view.read (Elt F) s1) ((Memref.whole cc0_scratch2).view.read (Elt F) s2) := by
    unfold attnOut; dsimp only
    rw [← eL, ← eR]; rfl
  sl_step
  iapply Hk
  unfold leftBy
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; isplitr; swap
    · iexact H9
    · ipureintro
      rw [View.read_writes_junk_eq_canon]; delta _root_.Cert.Proof.Attn.runB.sl.H9_1; exact (View.canon_cons_unit_lit _ _ _ (by decide)).trans eO
  isplitl [S0]
  · iexists _; iexact S0
  isplitl [S1]
  · iexists _; isplitr; swap
    · iexact S1
    · ipureintro; rfl
  isplitl [S2]
  · iexists _; isplitr; swap
    · iexact S2
    · ipureintro; rfl
  isplitl [S3]
  · iexists _; iexact S3
  isplitl [S4]
  · iexists _; iexact S4
  isplitl [S5]
  · iexists _; iexact S5
  isplitl [S6]
  · iexists _; iexact S6
  isplitl [S7]
  · iexists _; iexact S7
  isplitl [S8]
  · iexists _; iexact S8
  isplitl [S9]
  · iexists _; iexact S9
  isplitl [S10]
  · iexists _; iexact S10
  isplitl [S11]
  · iexists _; iexact S11
  iexists _; iexact S12

end Cert.Proof.Attn

end
-- ==== Proof.BodyFirst.lean ====
/-
  The body of the attention kernel run at the first query tile of a head, where it builds the bias tiles and the
  extended values before it computes.
-/
module

public import proofs.«01_k».proof.Proof.BodyDefs
public import Idealize.ShloMosaic.Lib.Pipeline.ReadBack
public import Idealize.ShloMosaic.Lib.Pipeline.ValueKit

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The bias tile each chunk takes at the first query tile: the diagonal one, then the one after the diagonal. -/
theorem off2_first0 : ∀ i : grid0.Coords, (i 2).val = 0 → k0_off2 i 0#32 0#32 = ![2, 0, 0] := by decide +kernel
theorem off2_first1 : ∀ i : grid0.Coords, (i 2).val = 0 → k0_off2 i 1#32 1#32 = ![1, 0, 0] := by decide +kernel
theorem off2_first2 : ∀ i : grid0.Coords, (i 2).val = 0 → k0_off2 i 2#32 2#32 = ![1, 0, 0] := by decide +kernel
theorem off2_first3 : ∀ i : grid0.Coords, (i 2).val = 0 → k0_off2 i 3#32 3#32 = ![1, 0, 0] := by decide +kernel

instance (i : grid0.Coords) [h : Fact ((i 2).val = 0)] : ClosedOff (k0_off2 i 0#32 0#32) := ⟨![2, 0, 0], off2_first0 i h.out⟩
instance (i : grid0.Coords) [h : Fact ((i 2).val = 0)] : ClosedOff (k0_off2 i 1#32 1#32) := ⟨![1, 0, 0], off2_first1 i h.out⟩
instance (i : grid0.Coords) [h : Fact ((i 2).val = 0)] : ClosedOff (k0_off2 i 2#32 2#32) := ⟨![1, 0, 0], off2_first2 i h.out⟩
instance (i : grid0.Coords) [h : Fact ((i 2).val = 0)] : ClosedOff (k0_off2 i 3#32 3#32) := ⟨![1, 0, 0], off2_first3 i h.out⟩

set_option maxHeartbeats 1000000 in
/-- The body at the first query tile of a head: it builds the bias tiles and the extended values, then computes. -/
theorem runA (c : Dev nD) (i : grid0.Coords) (M3 : Memref sig .tc .smem S6 .f32) (hM3 : M3.IsWhole) (M4 : Memref sig .tc .vmem S4x64 .f32) (hM4 : M4.IsWhole) (M5 : Memref sig .tc .vmem S256x128 .bf16) (hM5 : M5.IsWhole) (M6 : Memref sig .tc .vmem S4096x128 .bf16) (hM6 : M6.IsWhole) (M7 : Memref sig .tc .vmem S4096x128 .bf16) (hM7 : M7.IsWhole) (M8 : Memref sig .tc .vmem S1x128 .f32) (hM8 : M8.IsWhole) (M9 : Memref sig .tc .vmem S256x128 .bf16) (hM9 : M9.IsWhole)
    (f3 : Bf (F := F) c M3) (f4 : Bf (F := F) c M4) (f5 : Bf (F := F) c M5) (f6 : Bf (F := F) c M6) (f7 : Bf (F := F) c M7) (f8 : Bf (F := F) c M8) (f9 : Bf (F := F) c M9)
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (Q : PUnit → sProp 𝕄)
    [Fact ((i 2).val = 0)] (hc : (Scalar.cmpi .ne (Scalar.extui (Scalar.cmpi .eq (BitVec.ofNat 32 (i 2).val) 0#32)) 0#32 = 1#1)) :
    iprop(pt c M3 f3 ∗ pt c M4 f4 ∗ pt c M5 f5 ∗ pt c M6 f6 ∗ pt c M7 f7 ∗ pt c M8 f8 ∗ pt c M9 f9 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12
      ∗ (leftBy c i M3 M4 M5 M6 M7 M8 M9 f3 f4 f5 f6 f7 f8 (biasOf (slopeOf i (M3.view.read (Elt F) f3))) (valsOf (M7.view.read (Elt F) f7)) -∗ Q ⟨⟩))
    ⊢ wp frame (wpE (defs₀ (F := F)) Variants.none c none) Set.univ
        (cc0_diff_attention i M3 hM3 M4 hM4 M5 hM5 M6 hM6 M7 hM7 M8 hM8 M9 hM9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H3, H4, H5, H6, H7, H8, H9, S0, S1, S2, S3, S4, S5, S6, S7, S8, S9, S10, S11, S12, Hk⟩
  sl_exec!
  have hS1 : (_root_.Cert.Proof.Attn.runA.sl.S1_6 c i M3 f3) = biasPieces (slopeOf i (M3.view.read (Elt F) f3)) := by
    rfl
  have hS2 : (_root_.Cert.Proof.Attn.runA.sl.S2_2 c M7 f7) = valPieces (M7.view.read (Elt F) f7) := by
    rfl
  have e46 : (_root_.Cert.Proof.Attn.runA.sl.v46 c M5 f5) = queryOf (M5.view.read (Elt F) f5) := by
    delta _root_.Cert.Proof.Attn.runA.sl.v46; rw [View.readCov_eq_canon']; rfl
  have eB0 : (_root_.Cert.Proof.Attn.runA.sl.v65 c i M3 f3) = View.ld (biasOf (slopeOf i (M3.view.read (Elt F) f3))) (Rect.unit (s := S6x512x1024) (k0_off2 i 0#32 0#32) S1x512x1024.size (k0_off2_inb i 0)) := by
    delta _root_.Cert.Proof.Attn.runA.sl.v65; rw [hS1, biasOf_eq]; exact readCov_ld _ _ _
  have eB1 : (_root_.Cert.Proof.Attn.runA.sl.v135 c i M3 f3) = View.ld (biasOf (slopeOf i (M3.view.read (Elt F) f3))) (Rect.unit (s := S6x512x1024) (k0_off2 i 1#32 1#32) S1x512x1024.size (k0_off2_inb i 1)) := by
    delta _root_.Cert.Proof.Attn.runA.sl.v135; rw [hS1, biasOf_eq]; exact readCov_ld _ _ _
  have eB2 : (_root_.Cert.Proof.Attn.runA.sl.v216 c i M3 f3) = View.ld (biasOf (slopeOf i (M3.view.read (Elt F) f3))) (Rect.unit (s := S6x512x1024) (k0_off2 i 2#32 2#32) S1x512x1024.size (k0_off2_inb i 2)) := by
    delta _root_.Cert.Proof.Attn.runA.sl.v216; rw [hS1, biasOf_eq]; exact readCov_ld _ _ _
  have eB3 : (_root_.Cert.Proof.Attn.runA.sl.v297 c i M3 f3) = View.ld (biasOf (slopeOf i (M3.view.read (Elt F) f3))) (Rect.unit (s := S6x512x1024) (k0_off2 i 3#32 3#32) S1x512x1024.size (k0_off2_inb i 3)) := by
    delta _root_.Cert.Proof.Attn.runA.sl.v297; rw [hS1, biasOf_eq]; exact readCov_ld _ _ _
  have eV0 : (_root_.Cert.Proof.Attn.runA.sl.v162 c M7 f7) = (valChunk (valsOf (M7.view.read (Elt F) f7))) 0 := by
    delta _root_.Cert.Proof.Attn.runA.sl.v162; rw [hS2, valChunk_0, valsOf_eq]; exact readCov_ld _ _ _
  have eV1 : (_root_.Cert.Proof.Attn.runA.sl.v243 c M7 f7) = (valChunk (valsOf (M7.view.read (Elt F) f7))) 1 := by
    delta _root_.Cert.Proof.Attn.runA.sl.v243; rw [hS2, valChunk_1, valsOf_eq]; exact readCov_ld _ _ _
  have eV2 : (_root_.Cert.Proof.Attn.runA.sl.v324 c M7 f7) = (valChunk (valsOf (M7.view.read (Elt F) f7))) 2 := by
    delta _root_.Cert.Proof.Attn.runA.sl.v324; rw [hS2, valChunk_2, valsOf_eq]; exact readCov_ld _ _ _
  have eV3 : (_root_.Cert.Proof.Attn.runA.sl.v364 c M7 f7) = (valChunk (valsOf (M7.view.read (Elt F) f7))) 3 := by
    delta _root_.Cert.Proof.Attn.runA.sl.v364; rw [hS2, valChunk_3, valsOf_eq]; exact readCov_ld _ _ _
  have eS0 : (_root_.Cert.Proof.Attn.runA.sl.v71 c i M3 M5 M6 f3 f5 f6) = (scores i (M5.view.read (Elt F) f5) (M6.view.read (Elt F) f6) (biasOf (slopeOf i (M3.view.read (Elt F) f3))) 0) := by
    refine (View.readCov_cons_toLoadRect _ _ _ _).trans ?_
    change _ = scoreV (queryOf (M5.view.read (Elt F) f5)) (View.ld (M6.view.read (Elt F) f6) (Rect.unit (s := S4096x128) ![0, 0] S1024x128.size inb_S4096x128_S1024x128_0_0)) (View.ld (biasOf (slopeOf i (M3.view.read (Elt F) f3))) (Rect.unit (s := S6x512x1024) (k0_off2 i 0#32 0#32) S1x512x1024.size (k0_off2_inb i 0)))
    rw [← e46, ← eB0]; rfl
  have eS1 : (_root_.Cert.Proof.Attn.runA.sl.v141 c i M3 M5 M6 f3 f5 f6) = (scores i (M5.view.read (Elt F) f5) (M6.view.read (Elt F) f6) (biasOf (slopeOf i (M3.view.read (Elt F) f3))) 1) := by
    refine (View.readCov_cons_toLoadRect _ _ _ _).trans ?_
    change _ = scoreV (queryOf (M5.view.read (Elt F) f5)) (View.ld (M6.view.read (Elt F) f6) (Rect.unit (s := S4096x128) ![1024, 0] S1024x128.size inb_S4096x128_S1024x128_1024_0)) (View.ld (biasOf (slopeOf i (M3.view.read (Elt F) f3))) (Rect.unit (s := S6x512x1024) (k0_off2 i 1#32 1#32) S1x512x1024.size (k0_off2_inb i 1)))
    rw [← e46, ← eB1]; rfl
  have eS2 : (_root_.Cert.Proof.Attn.runA.sl.v222 c i M3 M5 M6 f3 f5 f6) = (scores i (M5.view.read (Elt F) f5) (M6.view.read (Elt F) f6) (biasOf (slopeOf i (M3.view.read (Elt F) f3))) 2) := by
    refine (View.readCov_cons_toLoadRect _ _ _ _).trans ?_
    change _ = scoreV (queryOf (M5.view.read (Elt F) f5)) (View.ld (M6.view.read (Elt F) f6) (Rect.unit (s := S4096x128) ![2048, 0] S1024x128.size inb_S4096x128_S1024x128_2048_0)) (View.ld (biasOf (slopeOf i (M3.view.read (Elt F) f3))) (Rect.unit (s := S6x512x1024) (k0_off2 i 2#32 2#32) S1x512x1024.size (k0_off2_inb i 2)))
    rw [← e46, ← eB2]; rfl
  have eS3 : (_root_.Cert.Proof.Attn.runA.sl.v_1 c i M3 M5 M6 f3 f5 f6) = (scores i (M5.view.read (Elt F) f5) (M6.view.read (Elt F) f6) (biasOf (slopeOf i (M3.view.read (Elt F) f3))) 3) := by
    refine (View.readCov_cons_toLoadRect _ _ _ _).trans ?_
    change _ = scoreV (queryOf (M5.view.read (Elt F) f5)) (View.ld (M6.view.read (Elt F) f6) (Rect.unit (s := S4096x128) ![3072, 0] S1024x128.size inb_S4096x128_S1024x128_3072_0)) (View.ld (biasOf (slopeOf i (M3.view.read (Elt F) f3))) (Rect.unit (s := S6x512x1024) (k0_off2 i 3#32 3#32) S1x512x1024.size (k0_off2_inb i 3)))
    rw [← e46, ← eB3]; rfl
  have eM0 : (_root_.Cert.Proof.Attn.runA.sl.v87) = (maxAt i (slopeOf i (M3.view.read (Elt F) f3)) (scores i (M5.view.read (Elt F) f5) (M6.view.read (Elt F) f6) (biasOf (slopeOf i (M3.view.read (Elt F) f3)))) 0) := by
    refine (View.readCov_cons_toLoadRect _ _ _ _).trans ?_
    rfl
  have eC0 : (_root_.Cert.Proof.Attn.runA.sl.v158) = (accAt i (slopeOf i (M3.view.read (Elt F) f3)) (scores i (M5.view.read (Elt F) f5) (M6.view.read (Elt F) f6) (biasOf (slopeOf i (M3.view.read (Elt F) f3)))) (valChunk (valsOf (M7.view.read (Elt F) f7))) 0) := by
    refine (View.readCov_cons_toLoadRect _ _ _ _).trans ?_
    rfl
  have eX0 : (_root_.Cert.Proof.Attn.runA.sl.v88 c i M3 M5 M6 f3 f5 f6) = (maxV (scores i (M5.view.read (Elt F) f5) (M6.view.read (Elt F) f6) (biasOf (slopeOf i (M3.view.read (Elt F) f3))) 0) (tileConst i (slopeOf i (M3.view.read (Elt F) f3)) 0)) := by
    refine (View.readCov_cons_toLoadRect _ _ _ _).trans ?_
    rw [← eS0]; rfl
  have eA0 : (_root_.Cert.Proof.Attn.runA.sl.v157 c i M3 M5 M6 f3 f5 f6) = scaleV (maxAt i (slopeOf i (M3.view.read (Elt F) f3)) (scores i (M5.view.read (Elt F) f5) (M6.view.read (Elt F) f6) (biasOf (slopeOf i (M3.view.read (Elt F) f3)))) 0) (maxV (scores i (M5.view.read (Elt F) f5) (M6.view.read (Elt F) f6) (biasOf (slopeOf i (M3.view.read (Elt F) f3))) 0) (tileConst i (slopeOf i (M3.view.read (Elt F) f3)) 0)) := by
    refine (View.readCov_cons_toLoadRect _ _ _ _).trans ?_
    rw [← eM0, ← eX0]; rfl
  have eP0 : (_root_.Cert.Proof.Attn.runA.sl.v161 c i M3 M5 M6 f3 f5 f6) = weightV (maximumf (maxAt i (slopeOf i (M3.view.read (Elt F) f3)) (scores i (M5.view.read (Elt F) f5) (M6.view.read (Elt F) f6) (biasOf (slopeOf i (M3.view.read (Elt F) f3)))) 0) (maxV (scores i (M5.view.read (Elt F) f5) (M6.view.read (Elt F) f6) (biasOf (slopeOf i (M3.view.read (Elt F) f3))) 0) (tileConst i (slopeOf i (M3.view.read (Elt F) f3)) 0))) (tileConst i (slopeOf i (M3.view.read (Elt F) f3)) 0) (scores i (M5.view.read (Elt F) f5) (M6.view.read (Elt F) f6) (biasOf (slopeOf i (M3.view.read (Elt F) f3))) 0) := by
    refine (View.readCov_cons_toLoadRect _ _ _ _).trans ?_
    rw [← eM0, ← eX0, ← eS0]; rfl
  have eM1 : (_root_.Cert.Proof.Attn.runA.sl.v c i M3 M5 M6 f3 f5 f6) = (maxAt i (slopeOf i (M3.view.read (Elt F) f3)) (scores i (M5.view.read (Elt F) f5) (M6.view.read (Elt F) f6) (biasOf (slopeOf i (M3.view.read (Elt F) f3)))) 1) := by
    refine (View.readCov_cons_toLoadRect _ _ _ _).trans ?_
    change _ = shapeCast S512x1 (maximumf (maxAt i (slopeOf i (M3.view.read (Elt F) f3)) (scores i (M5.view.read (Elt F) f5) (M6.view.read (Elt F) f6) (biasOf (slopeOf i (M3.view.read (Elt F) f3)))) 0) (maxV (scores i (M5.view.read (Elt F) f5) (M6.view.read (Elt F) f6) (biasOf (slopeOf i (M3.view.read (Elt F) f3))) 0) (tileConst i (slopeOf i (M3.view.read (Elt F) f3)) 0))) shapeCasts_S512x1_S512x1
    rw [← eM0, ← eX0]; rfl
  have eC1 : (_root_.Cert.Proof.Attn.runA.sl.v239 c i M3 M5 M6 M7 f3 f5 f6 f7) = (accAt i (slopeOf i (M3.view.read (Elt F) f3)) (scores i (M5.view.read (Elt F) f5) (M6.view.read (Elt F) f6) (biasOf (slopeOf i (M3.view.read (Elt F) f3)))) (valChunk (valsOf (M7.view.read (Elt F) f7))) 1) := by
    refine (View.readCov_cons_toLoadRect _ _ _ _).trans ?_
    change _ = accV (scaleV (maxAt i (slopeOf i (M3.view.read (Elt F) f3)) (scores i (M5.view.read (Elt F) f5) (M6.view.read (Elt F) f6) (biasOf (slopeOf i (M3.view.read (Elt F) f3)))) 0) (maxV (scores i (M5.view.read (Elt F) f5) (M6.view.read (Elt F) f6) (biasOf (slopeOf i (M3.view.read (Elt F) f3))) 0) (tileConst i (slopeOf i (M3.view.read (Elt F) f3)) 0))) (accAt i (slopeOf i (M3.view.read (Elt F) f3)) (scores i (M5.view.read (Elt F) f5) (M6.view.read (Elt F) f6) (biasOf (slopeOf i (M3.view.read (Elt F) f3)))) (valChunk (valsOf (M7.view.read (Elt F) f7))) 0) (weightV (maximumf (maxAt i (slopeOf i (M3.view.read (Elt F) f3)) (scores i (M5.view.read (Elt F) f5) (M6.view.read (Elt F) f6) (biasOf (slopeOf i (M3.view.read (Elt F) f3)))) 0) (maxV (scores i (M5.view.read (Elt F) f5) (M6.view.read (Elt F) f6) (biasOf (slopeOf i (M3.view.read (Elt F) f3))) 0) (tileConst i (slopeOf i (M3.view.read (Elt F) f3)) 0))) (tileConst i (slopeOf i (M3.view.read (Elt F) f3)) 0) (scores i (M5.view.read (Elt F) f5) (M6.view.read (Elt F) f6) (biasOf (slopeOf i (M3.view.read (Elt F) f3))) 0)) ((valChunk (valsOf (M7.view.read (Elt F) f7))) 0)
    rw [← eA0, ← eC0, ← eP0, ← eV0]; rfl
  have eX1 : (_root_.Cert.Proof.Attn.runA.sl.v169 c i M3 M5 M6 f3 f5 f6) = (maxV (scores i (M5.view.read (Elt F) f5) (M6.view.read (Elt F) f6) (biasOf (slopeOf i (M3.view.read (Elt F) f3))) 1) (tileConst i (slopeOf i (M3.view.read (Elt F) f3)) 1)) := by
    refine (View.readCov_cons_toLoadRect _ _ _ _).trans ?_
    rw [← eS1]; rfl
  have eA1 : (_root_.Cert.Proof.Attn.runA.sl.v238 c i M3 M5 M6 f3 f5 f6) = scaleV (maxAt i (slopeOf i (M3.view.read (Elt F) f3)) (scores i (M5.view.read (Elt F) f5) (M6.view.read (Elt F) f6) (biasOf (slopeOf i (M3.view.read (Elt F) f3)))) 1) (maxV (scores i (M5.view.read (Elt F) f5) (M6.view.read (Elt F) f6) (biasOf (slopeOf i (M3.view.read (Elt F) f3))) 1) (tileConst i (slopeOf i (M3.view.read (Elt F) f3)) 1)) := by
    refine (View.readCov_cons_toLoadRect _ _ _ _).trans ?_
    rw [← eM1, ← eX1]; rfl
  have eP1 : (_root_.Cert.Proof.Attn.runA.sl.v242 c i M3 M5 M6 f3 f5 f6) = weightV (maximumf (maxAt i (slopeOf i (M3.view.read (Elt F) f3)) (scores i (M5.view.read (Elt F) f5) (M6.view.read (Elt F) f6) (biasOf (slopeOf i (M3.view.read (Elt F) f3)))) 1) (maxV (scores i (M5.view.read (Elt F) f5) (M6.view.read (Elt F) f6) (biasOf (slopeOf i (M3.view.read (Elt F) f3))) 1) (tileConst i (slopeOf i (M3.view.read (Elt F) f3)) 1))) (tileConst i (slopeOf i (M3.view.read (Elt F) f3)) 1) (scores i (M5.view.read (Elt F) f5) (M6.view.read (Elt F) f6) (biasOf (slopeOf i (M3.view.read (Elt F) f3))) 1) := by
    refine (View.readCov_cons_toLoadRect _ _ _ _).trans ?_
    rw [← eM1, ← eX1, ← eS1]; rfl
  have eM2 : (_root_.Cert.Proof.Attn.runA.sl.v249 c i M3 M5 M6 f3 f5 f6) = (maxAt i (slopeOf i (M3.view.read (Elt F) f3)) (scores i (M5.view.read (Elt F) f5) (M6.view.read (Elt F) f6) (biasOf (slopeOf i (M3.view.read (Elt F) f3)))) 2) := by
    refine (View.readCov_cons_toLoadRect _ _ _ _).trans ?_
    change _ = shapeCast S512x1 (maximumf (maxAt i (slopeOf i (M3.view.read (Elt F) f3)) (scores i (M5.view.read (Elt F) f5) (M6.view.read (Elt F) f6) (biasOf (slopeOf i (M3.view.read (Elt F) f3)))) 1) (maxV (scores i (M5.view.read (Elt F) f5) (M6.view.read (Elt F) f6) (biasOf (slopeOf i (M3.view.read (Elt F) f3))) 1) (tileConst i (slopeOf i (M3.view.read (Elt F) f3)) 1))) shapeCasts_S512x1_S512x1
    rw [← eM1, ← eX1]; rfl
  have eC2 : (_root_.Cert.Proof.Attn.runA.sl.v320 c i M3 M5 M6 M7 f3 f5 f6 f7) = (accAt i (slopeOf i (M3.view.read (Elt F) f3)) (scores i (M5.view.read (Elt F) f5) (M6.view.read (Elt F) f6) (biasOf (slopeOf i (M3.view.read (Elt F) f3)))) (valChunk (valsOf (M7.view.read (Elt F) f7))) 2) := by
    refine (View.readCov_cons_toLoadRect _ _ _ _).trans ?_
    change _ = accV (scaleV (maxAt i (slopeOf i (M3.view.read (Elt F) f3)) (scores i (M5.view.read (Elt F) f5) (M6.view.read (Elt F) f6) (biasOf (slopeOf i (M3.view.read (Elt F) f3)))) 1) (maxV (scores i (M5.view.read (Elt F) f5) (M6.view.read (Elt F) f6) (biasOf (slopeOf i (M3.view.read (Elt F) f3))) 1) (tileConst i (slopeOf i (M3.view.read (Elt F) f3)) 1))) (accAt i (slopeOf i (M3.view.read (Elt F) f3)) (scores i (M5.view.read (Elt F) f5) (M6.view.read (Elt F) f6) (biasOf (slopeOf i (M3.view.read (Elt F) f3)))) (valChunk (valsOf (M7.view.read (Elt F) f7))) 1) (weightV (maximumf (maxAt i (slopeOf i (M3.view.read (Elt F) f3)) (scores i (M5.view.read (Elt F) f5) (M6.view.read (Elt F) f6) (biasOf (slopeOf i (M3.view.read (Elt F) f3)))) 1) (maxV (scores i (M5.view.read (Elt F) f5) (M6.view.read (Elt F) f6) (biasOf (slopeOf i (M3.view.read (Elt F) f3))) 1) (tileConst i (slopeOf i (M3.view.read (Elt F) f3)) 1))) (tileConst i (slopeOf i (M3.view.read (Elt F) f3)) 1) (scores i (M5.view.read (Elt F) f5) (M6.view.read (Elt F) f6) (biasOf (slopeOf i (M3.view.read (Elt F) f3))) 1)) ((valChunk (valsOf (M7.view.read (Elt F) f7))) 1)
    rw [← eA1, ← eC1, ← eP1, ← eV1]; rfl
  have eX2 : (_root_.Cert.Proof.Attn.runA.sl.v250 c i M3 M5 M6 f3 f5 f6) = (maxV (scores i (M5.view.read (Elt F) f5) (M6.view.read (Elt F) f6) (biasOf (slopeOf i (M3.view.read (Elt F) f3))) 2) (tileConst i (slopeOf i (M3.view.read (Elt F) f3)) 2)) := by
    refine (View.readCov_cons_toLoadRect _ _ _ _).trans ?_
    rw [← eS2]; rfl
  have eA2 : (_root_.Cert.Proof.Attn.runA.sl.v319 c i M3 M5 M6 f3 f5 f6) = scaleV (maxAt i (slopeOf i (M3.view.read (Elt F) f3)) (scores i (M5.view.read (Elt F) f5) (M6.view.read (Elt F) f6) (biasOf (slopeOf i (M3.view.read (Elt F) f3)))) 2) (maxV (scores i (M5.view.read (Elt F) f5) (M6.view.read (Elt F) f6) (biasOf (slopeOf i (M3.view.read (Elt F) f3))) 2) (tileConst i (slopeOf i (M3.view.read (Elt F) f3)) 2)) := by
    refine (View.readCov_cons_toLoadRect _ _ _ _).trans ?_
    rw [← eM2, ← eX2]; rfl
  have eP2 : (_root_.Cert.Proof.Attn.runA.sl.v323 c i M3 M5 M6 f3 f5 f6) = weightV (maximumf (maxAt i (slopeOf i (M3.view.read (Elt F) f3)) (scores i (M5.view.read (Elt F) f5) (M6.view.read (Elt F) f6) (biasOf (slopeOf i (M3.view.read (Elt F) f3)))) 2) (maxV (scores i (M5.view.read (Elt F) f5) (M6.view.read (Elt F) f6) (biasOf (slopeOf i (M3.view.read (Elt F) f3))) 2) (tileConst i (slopeOf i (M3.view.read (Elt F) f3)) 2))) (tileConst i (slopeOf i (M3.view.read (Elt F) f3)) 2) (scores i (M5.view.read (Elt F) f5) (M6.view.read (Elt F) f6) (biasOf (slopeOf i (M3.view.read (Elt F) f3))) 2) := by
    refine (View.readCov_cons_toLoadRect _ _ _ _).trans ?_
    rw [← eM2, ← eX2, ← eS2]; rfl
  have eM3 : (_root_.Cert.Proof.Attn.runA.sl.v330 c i M3 M5 M6 f3 f5 f6) = (maxAt i (slopeOf i (M3.view.read (Elt F) f3)) (scores i (M5.view.read (Elt F) f5) (M6.view.read (Elt F) f6) (biasOf (slopeOf i (M3.view.read (Elt F) f3)))) 3) := by
    refine (View.readCov_cons_toLoadRect _ _ _ _).trans ?_
    change _ = shapeCast S512x1 (maximumf (maxAt i (slopeOf i (M3.view.read (Elt F) f3)) (scores i (M5.view.read (Elt F) f5) (M6.view.read (Elt F) f6) (biasOf (slopeOf i (M3.view.read (Elt F) f3)))) 2) (maxV (scores i (M5.view.read (Elt F) f5) (M6.view.read (Elt F) f6) (biasOf (slopeOf i (M3.view.read (Elt F) f3))) 2) (tileConst i (slopeOf i (M3.view.read (Elt F) f3)) 2))) shapeCasts_S512x1_S512x1
    rw [← eM2, ← eX2]; rfl
  have eC3 : (_root_.Cert.Proof.Attn.runA.sl.v360 c i M3 M5 M6 M7 f3 f5 f6 f7) = (accAt i (slopeOf i (M3.view.read (Elt F) f3)) (scores i (M5.view.read (Elt F) f5) (M6.view.read (Elt F) f6) (biasOf (slopeOf i (M3.view.read (Elt F) f3)))) (valChunk (valsOf (M7.view.read (Elt F) f7))) 3) := by
    refine (View.readCov_cons_toLoadRect _ _ _ _).trans ?_
    change _ = accV (scaleV (maxAt i (slopeOf i (M3.view.read (Elt F) f3)) (scores i (M5.view.read (Elt F) f5) (M6.view.read (Elt F) f6) (biasOf (slopeOf i (M3.view.read (Elt F) f3)))) 2) (maxV (scores i (M5.view.read (Elt F) f5) (M6.view.read (Elt F) f6) (biasOf (slopeOf i (M3.view.read (Elt F) f3))) 2) (tileConst i (slopeOf i (M3.view.read (Elt F) f3)) 2))) (accAt i (slopeOf i (M3.view.read (Elt F) f3)) (scores i (M5.view.read (Elt F) f5) (M6.view.read (Elt F) f6) (biasOf (slopeOf i (M3.view.read (Elt F) f3)))) (valChunk (valsOf (M7.view.read (Elt F) f7))) 2) (weightV (maximumf (maxAt i (slopeOf i (M3.view.read (Elt F) f3)) (scores i (M5.view.read (Elt F) f5) (M6.view.read (Elt F) f6) (biasOf (slopeOf i (M3.view.read (Elt F) f3)))) 2) (maxV (scores i (M5.view.read (Elt F) f5) (M6.view.read (Elt F) f6) (biasOf (slopeOf i (M3.view.read (Elt F) f3))) 2) (tileConst i (slopeOf i (M3.view.read (Elt F) f3)) 2))) (tileConst i (slopeOf i (M3.view.read (Elt F) f3)) 2) (scores i (M5.view.read (Elt F) f5) (M6.view.read (Elt F) f6) (biasOf (slopeOf i (M3.view.read (Elt F) f3))) 2)) ((valChunk (valsOf (M7.view.read (Elt F) f7))) 2)
    rw [← eA2, ← eC2, ← eP2, ← eV2]; rfl
  have eX3 : (_root_.Cert.Proof.Attn.runA.sl.v331 c i M3 M5 M6 f3 f5 f6) = (maxV (scores i (M5.view.read (Elt F) f5) (M6.view.read (Elt F) f6) (biasOf (slopeOf i (M3.view.read (Elt F) f3))) 3) (tileConst i (slopeOf i (M3.view.read (Elt F) f3)) 3)) := by
    refine (View.readCov_cons_toLoadRect _ _ _ _).trans ?_
    rw [← eS3]; rfl
  have eA3 : (_root_.Cert.Proof.Attn.runA.sl.v359 c i M3 M5 M6 f3 f5 f6) = scaleV (maxAt i (slopeOf i (M3.view.read (Elt F) f3)) (scores i (M5.view.read (Elt F) f5) (M6.view.read (Elt F) f6) (biasOf (slopeOf i (M3.view.read (Elt F) f3)))) 3) (maxV (scores i (M5.view.read (Elt F) f5) (M6.view.read (Elt F) f6) (biasOf (slopeOf i (M3.view.read (Elt F) f3))) 3) (tileConst i (slopeOf i (M3.view.read (Elt F) f3)) 3)) := by
    refine (View.readCov_cons_toLoadRect _ _ _ _).trans ?_
    rw [← eM3, ← eX3]; rfl
  have eP3 : (_root_.Cert.Proof.Attn.runA.sl.v363 c i M3 M5 M6 f3 f5 f6) = weightV (maximumf (maxAt i (slopeOf i (M3.view.read (Elt F) f3)) (scores i (M5.view.read (Elt F) f5) (M6.view.read (Elt F) f6) (biasOf (slopeOf i (M3.view.read (Elt F) f3)))) 3) (maxV (scores i (M5.view.read (Elt F) f5) (M6.view.read (Elt F) f6) (biasOf (slopeOf i (M3.view.read (Elt F) f3))) 3) (tileConst i (slopeOf i (M3.view.read (Elt F) f3)) 3))) (tileConst i (slopeOf i (M3.view.read (Elt F) f3)) 3) (scores i (M5.view.read (Elt F) f5) (M6.view.read (Elt F) f6) (biasOf (slopeOf i (M3.view.read (Elt F) f3))) 3) := by
    refine (View.readCov_cons_toLoadRect _ _ _ _).trans ?_
    rw [← eM3, ← eX3, ← eS3]; rfl
  have h4 : (accAt i (slopeOf i (M3.view.read (Elt F) f3)) (scores i (M5.view.read (Elt F) f5) (M6.view.read (Elt F) f6) (biasOf (slopeOf i (M3.view.read (Elt F) f3)))) (valChunk (valsOf (M7.view.read (Elt F) f7))) 4) = accV (scaleV (maxAt i (slopeOf i (M3.view.read (Elt F) f3)) (scores i (M5.view.read (Elt F) f5) (M6.view.read (Elt F) f6) (biasOf (slopeOf i (M3.view.read (Elt F) f3)))) 3) (maxV (scores i (M5.view.read (Elt F) f5) (M6.view.read (Elt F) f6) (biasOf (slopeOf i (M3.view.read (Elt F) f3))) 3) (tileConst i (slopeOf i (M3.view.read (Elt F) f3)) 3))) (accAt i (slopeOf i (M3.view.read (Elt F) f3)) (scores i (M5.view.read (Elt F) f5) (M6.view.read (Elt F) f6) (biasOf (slopeOf i (M3.view.read (Elt F) f3)))) (valChunk (valsOf (M7.view.read (Elt F) f7))) 3) (weightV (maximumf (maxAt i (slopeOf i (M3.view.read (Elt F) f3)) (scores i (M5.view.read (Elt F) f5) (M6.view.read (Elt F) f6) (biasOf (slopeOf i (M3.view.read (Elt F) f3)))) 3) (maxV (scores i (M5.view.read (Elt F) f5) (M6.view.read (Elt F) f6) (biasOf (slopeOf i (M3.view.read (Elt F) f3))) 3) (tileConst i (slopeOf i (M3.view.read (Elt F) f3)) 3))) (tileConst i (slopeOf i (M3.view.read (Elt F) f3)) 3) (scores i (M5.view.read (Elt F) f5) (M6.view.read (Elt F) f6) (biasOf (slopeOf i (M3.view.read (Elt F) f3))) 3)) ((valChunk (valsOf (M7.view.read (Elt F) f7))) 3) := by
    rfl
  have eL : (_root_.Cert.Proof.Attn.runA.sl.v388 c i M3 M5 M6 M7 f3 f5 f6 f7) = View.ld (accAt i (slopeOf i (M3.view.read (Elt F) f3)) (scores i (M5.view.read (Elt F) f5) (M6.view.read (Elt F) f6) (biasOf (slopeOf i (M3.view.read (Elt F) f3)))) (valChunk (valsOf (M7.view.read (Elt F) f7))) 4) (Rect.unit (s := S512x256) ![0, 0] S512x128.size inb_S512x256_S512x128_0_0) := by
    refine (View.readCov_fill _ _ _ _ _ (by decide)).trans ?_
    rw [h4, ← eA3, ← eC3, ← eP3, ← eV3]; rfl
  have eR : (_root_.Cert.Proof.Attn.runA.sl.v389 c i M3 M5 M6 M7 f3 f5 f6 f7) = View.ld (accAt i (slopeOf i (M3.view.read (Elt F) f3)) (scores i (M5.view.read (Elt F) f5) (M6.view.read (Elt F) f6) (biasOf (slopeOf i (M3.view.read (Elt F) f3)))) (valChunk (valsOf (M7.view.read (Elt F) f7))) 4) (Rect.unit (s := S512x256) ![0, 128] S512x128.size inb_S512x256_S512x128_0_128) := by
    refine (View.readCov_fill _ _ _ _ _ (by decide)).trans ?_
    rw [h4, ← eA3, ← eC3, ← eP3, ← eV3]; rfl
  have eO : k0_pay1 (_root_.Cert.Proof.Attn.runA.sl.r_15 c i M3 M4 M5 M6 M7 M8 f3 f4 f5 f6 f7 f8) = attnOut i (M3.view.read (Elt F) f3) (M4.view.read (Elt F) f4) (M5.view.read (Elt F) f5) (M6.view.read (Elt F) f6) (M8.view.read (Elt F) f8) (biasOf (slopeOf i (M3.view.read (Elt F) f3))) (valsOf (M7.view.read (Elt F) f7)) := by
    unfold attnOut; dsimp only
    rw [← eL, ← eR]; rfl
  sl_step
  iapply Hk
  unfold leftBy
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; isplitr; swap
    · iexact H9
    · ipureintro
      rw [View.read_writes_junk_eq_canon]; delta _root_.Cert.Proof.Attn.runA.sl.H9_1; exact (View.canon_cons_unit_lit _ _ _ (by decide)).trans eO
  isplitl [S0]
  · iexists _; iexact S0
  isplitl [S1]
  · iexists _; isplitr; swap
    · iexact S1
    · ipureintro; rw [View.read_writes_junk_eq_canon]; rw [biasOf_eq]; exact congrArg View.canon hS1
  isplitl [S2]
  · iexists _; isplitr; swap
    · iexact S2
    · ipureintro; rw [View.read_writes_junk_eq_canon]; rw [valsOf_eq]; exact congrArg View.canon hS2
  isplitl [S3]
  · iexists _; iexact S3
  isplitl [S4]
  · iexists _; iexact S4
  isplitl [S5]
  · iexists _; iexact S5
  isplitl [S6]
  · iexists _; iexact S6
  isplitl [S7]
  · iexists _; iexact S7
  isplitl [S8]
  · iexists _; iexact S8
  isplitl [S9]
  · iexists _; iexact S9
  isplitl [S10]
  · iexists _; iexact S10
  isplitl [S11]
  · iexists _; iexact S11
  iexists _; iexact S12

end Cert.Proof.Attn

end
-- ==== Proof.RunFrame.lean ====
/-
  The run of the attention kernel: the invariant between grid points (the bias tiles and the extended values of the
  current head stay in their scratches), the body obligation, and the launch, over any float values.
-/
module

public import proofs.«01_k».proof.Proof.Body
public import proofs.«01_k».proof.Proof.BodyFirst
public import Idealize.ShloMosaic.Lib.Pipeline.ReadBack
public import Idealize.ShloMosaic.Lib.Pipeline.ValueKit

@[expose] public section

set_option maxRecDepth 16384

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at contents is its buffer held, read as those contents. -/
theorem owns_holds (c : Dev nD) {sp : Space} {S : Shape} {e : EltTy} {M : Memref sig .tc sp S e} (h : M.IsWhole) (x : S.Idx → Elt F e) :
    (owns (c : Thread nD τ) M fullShare x : sProp 𝕄) = holds c M x := by
  unfold owns; rw [h.set_eq_univ]

/-- The slope in force at point `t`. -/
def slopeAt (c : Dev nD) (t : Fin cfg0.N) : F .f32 := slopeOf (grid0.coords t) (iblk m c 0 t)

/-- The output block of point `t`. -/
def outAt (c : Dev nD) (t : Fin cfg0.N) : FVec F S256x128 .bf16 :=
  attnOut (grid0.coords t) (iblk m c 0 t) (iblk m c 1 t) (iblk m c 2 t) (iblk m c 3 t) (iblk m c 5 t)
    (biasOf (slopeAt m c t)) (valsOf (iblk m c 4 t))

/-- Before point `n`, inside a head, the second scratch holds the head's bias tiles. -/
def KeptB (c : Dev nD) (n : Nat) (B : S6x512x1024.Idx → Elt F .f32) : Prop :=
  ∀ hn : n < cfg0.N, n % 16 ≠ 0 → B = biasOf (slopeAt m c ⟨n, hn⟩)

/-- Before point `n`, inside a head, the third scratch holds the head's extended values. -/
def KeptV (c : Dev nD) (n : Nat) (VA : S4096x256.Idx → Elt F .bf16) : Prop :=
  ∀ hn : n < cfg0.N, n % 16 ≠ 0 → VA = valsOf (iblk m c 4 ⟨n, hn⟩)

/-- The invariant before point `n`. -/
def PhiS (c : Dev nD) (n : Nat) : sProp 𝕄 :=
  iprop((some' c (Memref.whole cc0_scratch0)
    ∗ (∃ f : Bf (F := F) c (Memref.whole cc0_scratch1), ⌜KeptB m c n ((Memref.whole cc0_scratch1).view.read (Elt F) f)⌝ ∗ pt c (Memref.whole cc0_scratch1) f)
    ∗ (∃ f : Bf (F := F) c (Memref.whole cc0_scratch2), ⌜KeptV m c n ((Memref.whole cc0_scratch2).view.read (Elt F) f)⌝ ∗ pt c (Memref.whole cc0_scratch2) f)
    ∗ some' c (Memref.whole cc0_scratch3) ∗ some' c (Memref.whole cc0_scratch4) ∗ some' c (Memref.whole cc0_scratch5) ∗ some' c (Memref.whole cc0_scratch6) ∗ some' c (Memref.whole cc0_scratch7) ∗ some' c (Memref.whole cc0_scratch8) ∗ some' c (Memref.whole cc0_scratch9) ∗ some' c (Memref.whole cc0_scratch10) ∗ some' c (Memref.whole cc0_scratch11) ∗ some' c (Memref.whole cc0_scratch12))
    ∗ ∃ r, prngReg c r)

/-- The proof data: the arrays as the region finds them; each input's buffer at its block and the output's at `outAt`
    after the body; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## What stays from one point to the next -/

theorem off1_step : ∀ t : Fin cfg0.N, ∀ h : t.val + 1 < cfg0.N, (t.val + 1) % 16 ≠ 0 →
    k0_off1 (grid0.coords ⟨t.val + 1, h⟩) = k0_off1 (grid0.coords t) := by decide +kernel

theorem slopeOf_congr {i j : grid0.Coords} (h : k0_off1 i = k0_off1 j) (x : S6.Idx → Elt F .f32) : slopeOf i x = slopeOf j x := by
  have key : ∀ (o o' : Fin 1 → Nat) (h1 : ∀ a, o a + S1.size a ≤ S6.size a) (h2 : ∀ a, o' a + S1.size a ≤ S6.size a), o = o' →
      View.ld x (Rect.unit (s := S6) o S1.size h1) (Shape.Idx.first (numel1_S1 ▸ Nat.one_pos))
        = View.ld x (Rect.unit (s := S6) o' S1.size h2) (Shape.Idx.first (numel1_S1 ▸ Nat.one_pos)) := by
    intro o o' h1 h2 e; subst e; rfl
  exact key _ _ _ _ h

theorem fetched_iblk0 (c : Dev nD) (t : Fin cfg0.N) (d) : (dats m 0 c).fetched 0 t d = iblk m c 0 t := by
  unfold Dat.fetched Dat.blockOf iblk; rw [A_eq]; try rfl
theorem fetched_iblk4 (c : Dev nD) (t : Fin cfg0.N) (d) : (dats m 0 c).fetched 4 t d = iblk m c 4 t := by
  unfold Dat.fetched Dat.blockOf iblk; rw [A_eq]; try rfl

theorem iblk0_step (c : Dev nD) (t : Fin cfg0.N) (h : t.val + 1 < cfg0.N) (hm : (t.val + 1) % 16 ≠ 0) :
    iblk m c 0 ⟨t.val + 1, h⟩ = iblk m c 0 t := by
  have hf : (cfg0.win 0).fetch ⟨t.val + 1, h⟩ = false := by
    rw [← Bool.not_eq_true, fetch0_0]; intro e
    have : (t.val + 1) % 256 = 0 := e
    omega
  obtain ⟨-, hx⟩ := (cfg0.win 0).index_eq_of_fetch rfl ⟨t.val + 1, h⟩ hf
  have hx' : (cfg0.win 0).index ⟨t.val + 1, h⟩ = (cfg0.win 0).index t := hx
  have key := Dat.fetched_congr (dats m 0 c) 0 hx' rfl (fun _ => Classical.arbitrary _)
  rwa [fetched_iblk0, fetched_iblk0] at key

theorem iblk4_step (c : Dev nD) (t : Fin cfg0.N) (h : t.val + 1 < cfg0.N) (hm : (t.val + 1) % 16 ≠ 0) :
    iblk m c 4 ⟨t.val + 1, h⟩ = iblk m c 4 t := by
  have hf : (cfg0.win 4).fetch ⟨t.val + 1, h⟩ = false := by
    rw [← Bool.not_eq_true, fetch0_4]; exact hm
  obtain ⟨-, hx⟩ := (cfg0.win 4).index_eq_of_fetch rfl ⟨t.val + 1, h⟩ hf
  have hx' : (cfg0.win 4).index ⟨t.val + 1, h⟩ = (cfg0.win 4).index t := hx
  have key := Dat.fetched_congr (dats m 0 c) 4 hx' rfl (fun _ => Classical.arbitrary _)
  rwa [fetched_iblk4, fetched_iblk4] at key

theorem keptB_succ (c : Dev nD) (t : Fin cfg0.N) : KeptB m c (t.val + 1) (biasOf (slopeAt m c t)) := fun hn hm => by
  unfold slopeAt; rw [iblk0_step m c t hn hm, slopeOf_congr (off1_step t hn hm)]

theorem keptV_succ (c : Dev nD) (t : Fin cfg0.N) : KeptV m c (t.val + 1) (valsOf (iblk m c 4 t)) := fun hn hm => by
  rw [iblk4_step m c t hn hm]

/-! ## The body obligation -/

theorem coord2 : ∀ t : Fin cfg0.N, t.val % 16 = 0 → ((grid0.coords t) 2).val = 0 := by decide +kernel
theorem cond_first : ∀ t : Fin cfg0.N, t.val % 16 = 0 →
    (Scalar.cmpi .ne (Scalar.extui (Scalar.cmpi .eq (BitVec.ofNat 32 ((grid0.coords t) 2).val) 0#32)) 0#32 = 1#1) := by decide +kernel
theorem cond_later : ∀ t : Fin cfg0.N, t.val % 16 ≠ 0 →
    ¬ (Scalar.cmpi .ne (Scalar.extui (Scalar.cmpi .eq (BitVec.ofNat 32 ((grid0.coords t) 2).val) 0#32)) 0#32 = 1#1) := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point, by the run at a head's first query tile or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    after0_0, after0_1, after0_2, after0_3, after0_4, after0_5, after0_6]
  simp only [owns_holds c (hstage0_0 (cfg0.slots t 0)), owns_holds c (hstage0_1 (cfg0.slots t 1)), owns_holds c (hstage0_2 (cfg0.slots t 2)), owns_holds c (hstage0_3 (cfg0.slots t 3)), owns_holds c (hstage0_4 (cfg0.slots t 4)), owns_holds c (hstage0_5 (cfg0.slots t 5)), owns_holds c (hstage0_6 (cfg0.slots t 6))]
  unfold PhiS
  iintro ⟨⟨⟨⟨%s0, S0⟩, ⟨%s1, %k1, S1⟩, ⟨%s2, %k2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  by_cases hz : t.val % 16 = 0
  · haveI : Fact (((grid0.coords t) 2).val = 0) := ⟨coord2 t hz⟩
    iapply (runA c (grid0.coords t) (st0_0 t) (hstage0_0 (cfg0.slots t 0)) (st0_1 t) (hstage0_1 (cfg0.slots t 1)) (st0_2 t) (hstage0_2 (cfg0.slots t 2)) (st0_3 t) (hstage0_3 (cfg0.slots t 3)) (st0_4 t) (hstage0_4 (cfg0.slots t 4)) (st0_5 t) (hstage0_5 (cfg0.slots t 5)) (st0_6 t) (hstage0_6 (cfg0.slots t 6)) f0 f1 f2 f3 f4 f5 f6 s0 s1 s2 s3 s4 s5 s6 s7 s8 s9 s10 s11 s12 _ (cond_first t hz))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    unfold leftBy
    rw [e0, e1, e2, e3, e5]
    iintro ⟨H0, H1, H2, H3, H4, H5, ⟨%g6, %e7, H6⟩, S0, ⟨%s1', %k1', S1⟩, ⟨%s2', %k2', S2⟩, S3, S4, S5, S6, S7, S8, S9, S10, S11, S12⟩
    isplitl [S0 S1 S2 S3 S4 S5 S6 S7 S8 S9 S10 S11 S12 Hp]
    · isplitr [Hp]; swap; · iexact Hp
      isplitl [S0]; · iexact S0
      isplitl [S1]
      · iexists s1'; isplitr; swap
        · iexact S1
        · ipureintro; rw [k1']; exact keptB_succ m c t
      isplitl [S2]
      · iexists s2'; isplitr; swap
        · iexact S2
        · ipureintro; rw [k2', e4]; exact keptV_succ m c t
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Ho]; · iexact Ho
    isplitl [H0]
    · iexists f0; isplitr; swap
      · iexact H0
      · ipureintro; exact e0
    isplitl [H1]
    · iexists f1; isplitr; swap
      · iexact H1
      · ipureintro; exact e1
    isplitl [H2]
    · iexists f2; isplitr; swap
      · iexact H2
      · ipureintro; exact e2
    isplitl [H3]
    · iexists f3; isplitr; swap
      · iexact H3
      · ipureintro; exact e3
    isplitl [H4]
    · iexists f4; isplitr; swap
      · iexact H4
      · ipureintro; exact e4
    isplitl [H5]
    · iexists f5; isplitr; swap
      · iexact H5
      · ipureintro; exact e5
    iexists g6; isplitr; swap
    · iexact H6
    · ipureintro; rw [e7, e4]; rfl
  · have hB := k1 t.isLt hz
    have hV := k2 t.isLt hz
    iapply (runB c (grid0.coords t) (st0_0 t) (hstage0_0 (cfg0.slots t 0)) (st0_1 t) (hstage0_1 (cfg0.slots t 1)) (st0_2 t) (hstage0_2 (cfg0.slots t 2)) (st0_3 t) (hstage0_3 (cfg0.slots t 3)) (st0_4 t) (hstage0_4 (cfg0.slots t 4)) (st0_5 t) (hstage0_5 (cfg0.slots t 5)) (st0_6 t) (hstage0_6 (cfg0.slots t 6)) f0 f1 f2 f3 f4 f5 f6 s0 s1 s2 s3 s4 s5 s6 s7 s8 s9 s10 s11 s12 _ (cond_later t hz))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    unfold leftBy
    rw [e0, e1, e2, e3, e5]
    iintro ⟨H0, H1, H2, H3, H4, H5, ⟨%g6, %e7, H6⟩, S0, ⟨%s1', %k1', S1⟩, ⟨%s2', %k2', S2⟩, S3, S4, S5, S6, S7, S8, S9, S10, S11, S12⟩
    isplitl [S0 S1 S2 S3 S4 S5 S6 S7 S8 S9 S10 S11 S12 Hp]
    · isplitr [Hp]; swap; · iexact Hp
      isplitl [S0]; · iexact S0
      isplitl [S1]
      · iexists s1'; isplitr; swap
        · iexact S1
        · ipureintro; rw [k1', hB]; exact keptB_succ m c t
      isplitl [S2]
      · iexists s2'; isplitr; swap
        · iexact S2
        · ipureintro; rw [k2', hV]; exact keptV_succ m c t
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Ho]; · iexact Ho
    isplitl [H0]
    · iexists f0; isplitr; swap
      · iexact H0
      · ipureintro; exact e0
    isplitl [H1]
    · iexists f1; isplitr; swap
      · iexact H1
      · ipureintro; exact e1
    isplitl [H2]
    · iexists f2; isplitr; swap
      · iexact H2
      · ipureintro; exact e2
    isplitl [H3]
    · iexists f3; isplitr; swap
      · iexact H3
      · ipureintro; exact e3
    isplitl [H4]
    · iexists f4; isplitr; swap
      · iexact H4
      · ipureintro; exact e4
    isplitl [H5]
    · iexists f5; isplitr; swap
      · iexact H5
      · ipureintro; exact e5
    iexists g6; isplitr; swap
    · iexact H6
    · ipureintro; rw [e7, hB, hV]; rfl

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The launch -/

theorem scopedRest_some (c : Dev nD) : (Pipeline.ΦA spec0 c : sProp 𝕄)
    = iprop((some' c (Memref.whole cc0_scratch0) ∗ some' c (Memref.whole cc0_scratch1) ∗ some' c (Memref.whole cc0_scratch2) ∗ some' c (Memref.whole cc0_scratch3) ∗ some' c (Memref.whole cc0_scratch4) ∗ some' c (Memref.whole cc0_scratch5) ∗ some' c (Memref.whole cc0_scratch6) ∗ some' c (Memref.whole cc0_scratch7) ∗ some' c (Memref.whole cc0_scratch8) ∗ some' c (Memref.whole cc0_scratch9) ∗ some' c (Memref.whole cc0_scratch10) ∗ some' c (Memref.whole cc0_scratch11) ∗ some' c (Memref.whole cc0_scratch12)) ∗ ∃ r, prngReg c r) := by
  unfold Pipeline.ΦA; rw [scopedRest0_eq]

theorem hin (c : Dev nD) : (Pipeline.ΦA spec0 c : sProp 𝕄) ⊢ (dats m 0 c).Φ 0 := by
  rw [scopedRest_some, show (dats m 0 c).Φ 0 = PhiS m c 0 from rfl]
  unfold PhiS
  iintro ⟨⟨S0, ⟨%s1, S1⟩, ⟨%s2, S2⟩, SR⟩, Hp⟩
  isplitr [Hp]; swap; · iexact Hp
  isplitl [S0]; · iexact S0
  isplitl [S1]
  · iexists s1; isplitr; swap
    · iexact S1
    · ipureintro; exact fun _ h => absurd rfl h
  isplitl [S2]
  · iexists s2; isplitr; swap
    · iexact S2
    · ipureintro; exact fun _ h => absurd rfl h
  iexact SR

theorem hout (c : Dev nD) : (dats m 0 c).Φ (Fin.last cfg0.N) ⊢ (Pipeline.ΦA spec0 c : sProp 𝕄) := by
  rw [scopedRest_some, show (dats m 0 c).Φ (Fin.last cfg0.N) = PhiS m c cfg0.N from rfl]
  unfold PhiS
  iintro ⟨⟨S0, ⟨%s1, -, S1⟩, ⟨%s2, -, S2⟩, SR⟩, Hp⟩
  isplitr [Hp]; swap; · iexact Hp
  isplitl [S0]; · iexact S0
  isplitl [S1]; · iexists s1; iexact S1
  isplitl [S2]; · iexists s2; iexact S2
  iexact SR

set_option backward.isDefEq.respectTransparency.types false in
set_option maxHeartbeats 1000000 in
/-- From any memory with zero counters, every weakly fair execution of the program terminates, every array of the
    pipeline ends at what the proof data say, every other buffer as the region found it, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.Proof.Attn

end
-- ==== Proof.Frames.lean ====
/-
  The frame of the attention kernel, as printed and idealized: it terminates, leaves its arguments unchanged, and every
  counter ends at zero. The two programs are one text, so the one run serves both.
-/
module

public import proofs.«01_k».proof.Defs
public import proofs.«01_k».proof.Proof.Gen.Kernel
public import proofs.«01_k».proof.Proof.Gen.KernelIdeal
public import proofs.«01_k».proof.Proof.RunFrame

@[expose] public section

noncomputable section

namespace Cert.Proof.Attn

open Idealize.ShloMosaic Idealize.SL.Sem
open Cert.KernelIdeal Cert.KernelIdeal.Gen

variable {F : FTy → Type} [FloatOps F]

/-- What a run's final state says of the arguments: they are unchanged. -/
theorem args_kept (m : (ℓ : Loc nD τ sig) → Buf (Elt F) ℓ) (r) (h : (Pipeline.FramePost cfgs (dats m) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 4).trans (((dats m 0 c).arrAt_in 4 rfl _).trans ((A_eq m c 4).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The arguments end unchanged and the counters at zero, over any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨args_kept m r h.1, h.2⟩) (run_main_quiescent m ρ)

set_option maxHeartbeats 2000000 in
/-- The two programs' kernels are one text. -/
theorem kernels_eq : @Cert.Kernel.cc0_diff_attention F _ Cert.Kernel.Gen.facts = @Cert.KernelIdeal.cc0_diff_attention F _ Cert.KernelIdeal.Gen.facts := rfl

set_option maxHeartbeats 2000000 in
/-- So their body tables agree at every label, -/
theorem defs₀_eq : @Cert.Kernel.defs₀ F _ Cert.Kernel.Gen.facts = @Cert.KernelIdeal.defs₀ F _ Cert.KernelIdeal.Gen.facts := by
  funext pr ℓ a
  cases pr with
  | tc =>
    unfold Cert.Kernel.defs₀ Cert.KernelIdeal.defs₀
    match ℓ, a with
    | ⟨0, _⟩, (t, s) => rfl
  | scScalar _ => rfl
  | scVector _ _ => rfl

/-- and so do the tables the pipelines run over. -/
theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) defs₀_eq

set_option maxHeartbeats 2000000 in
theorem frame_Kernel : Cert.quiescent_Kernel (hKernel := Cert.Kernel.Gen.facts) := fun m ρ _ => by
  have h := frame_any (F := Bits) m ρ
  rw [← defs_eq] at h
  exact h

theorem frame_KernelIdeal : Cert.quiescent_KernelIdeal (hKernelIdeal := Cert.KernelIdeal.Gen.facts) := fun m ρ _ =>
  frame_any (F := Ideal) m ρ

end Cert.Proof.Attn

end
-- ==== Proof.Reals.lean ====
/-
  Facts on extended reals that are real numbers, as the value proof needs them: sums, maxima, exponentials and
  quotients of reals, and the softmax average, which no shift of its scores changes.
-/
module

public import Idealize.ShloMosaic.Lib.Pointwise

@[expose] public section

noncomputable section

namespace Cert.Proof.Attn

open Idealize.ShloMosaic
open scoped BigOperators

/-- A finite sum of reals is real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max (a := a) (b := b)).symm

/-- The maximum of a non-empty finite family of reals, from minus infinity, is real. -/
theorem fold_max_real {ι : Type*} (s : Finset ι) (hs : s.Nonempty) (f : ι → ℝ) :
    ∃ x : ℝ, s.fold max (⊥ : EReal) (fun k => ((f k : ℝ) : EReal)) = (x : EReal) := by
  classical
  induction hs using Finset.Nonempty.cons_induction with
  | singleton a => exact ⟨f a, by simp⟩
  | cons a s ha hs ih =>
    obtain ⟨x, hx⟩ := ih
    exact ⟨max (f a) x, by rw [Finset.fold_cons, hx, coe_max]⟩

theorem exp_coe (r : ℝ) : Ideal.exp (r : EReal) = ((Real.exp r : ℝ) : EReal) := rfl

theorem div_real {a b : ℝ} (h : b ≠ 0) : Ideal.div (a : EReal) (b : EReal) = ((a / b : ℝ) : EReal) := by
  rw [Ideal.div_coe h, ← EReal.coe_mul, mul_one_div]

theorem abs_coe (r : ℝ) : max (r : EReal) (-(r : EReal)) = ((|r| : ℝ) : EReal) := by
  rw [← EReal.coe_neg, coe_max]; rfl

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_four : Ideal.ofBits .f32 0x40800000#32 = ((4 : ℝ) : EReal) := by
  simp [Ideal.ofBits, Ideal.ieee]; norm_cast; norm_num
theorem ofBits_256 : Ideal.ofBits .f32 0x43800000#32 = ((256 : ℝ) : EReal) := by
  simp [Ideal.ofBits, Ideal.ieee]; norm_cast; norm_num
theorem ofBits_512 : Ideal.ofBits .f32 0x44000000#32 = ((512 : ℝ) : EReal) := by
  simp [Ideal.ofBits, Ideal.ieee]; norm_cast; norm_num
theorem ofBits_768 : Ideal.ofBits .f32 0x44400000#32 = ((768 : ℝ) : EReal) := by
  simp [Ideal.ofBits, Ideal.ieee]; norm_cast; norm_num

/-- The start of the running maximum is a real number. -/
theorem ofBits_start : ∃ x : ℝ, Ideal.ofBits .f32 0xF149F2CA#32 = (x : EReal) := by
  simp only [Ideal.ofBits, Ideal.ieee]
  rw [if_neg (by decide), if_neg (by decide)]
  exact ⟨_, rfl⟩

theorem ofBits_ln2 : ∃ x : ℝ, Ideal.ofBits .f32 0x3F317218#32 = (x : EReal) := by
  simp only [Ideal.ofBits, Ideal.ieee]
  rw [if_neg (by decide), if_neg (by decide)]
  exact ⟨_, rfl⟩

theorem ofBits_negEight : ∃ x : ℝ, Ideal.ofBits .f32 0xC1000000#32 = (x : EReal) := by
  simp only [Ideal.ofBits, Ideal.ieee]
  rw [if_neg (by decide), if_neg (by decide)]
  exact ⟨_, rfl⟩

/-- What is less than infinity with its negative is real. -/
theorem real_of_abs_lt {x : EReal} (h : max x (-x) < ⊤) : ∃ r : ℝ, x = (r : EReal) := by
  induction x with
  | bot => simp at h
  | top => simp at h
  | coe r => exact ⟨r, rfl⟩

/-- The average of `v` under the weights `exp (s k)`. -/
def avg {n : Nat} (s v : Fin n → ℝ) : ℝ := (∑ k, Real.exp (s k) * v k) / ∑ k, Real.exp (s k)

theorem sum_exp_pos {n : Nat} [NeZero n] (s : Fin n → ℝ) : 0 < ∑ k, Real.exp (s k) :=
  Finset.sum_pos (fun k _ => Real.exp_pos _) ⟨0, Finset.mem_univ _⟩

/-- A shift of every score by the same number changes the average not at all. -/
theorem avg_shift {n : Nat} (s v : Fin n → ℝ) (m : ℝ) :
    (∑ k, Real.exp (s k - m) * v k) / (∑ k, Real.exp (s k - m)) = avg s v := by
  have h : ∀ k, Real.exp (s k - m) = Real.exp (-m) * Real.exp (s k) := fun k => by
    rw [← Real.exp_add]; congr 1; ring
  unfold avg
  simp only [h, mul_assoc, ← Finset.mul_sum]
  exact mul_div_mul_left _ _ (Real.exp_pos _).ne'

end Cert.Proof.Attn

end
-- ==== Proof.Score.lean ====
/-
  The attention layer's numbers over the reals: a head's scores with their distance penalty, its two softmax
  averages and their difference; and the words that count positions, read as integers.
-/
module

public import proofs.«01_k».proof.Proof.Reals

@[expose] public section

noncomputable section

namespace Cert.Proof.Attn

open Idealize.ShloMosaic
open scoped BigOperators

/-- The score of component `c` of head `h`, between positions `q` and `k` of batch `b`. -/
def score (x : Fin 16384 → Fin 1536 → ℝ) (σ : Fin 4 → ℝ) (b h : Fin 4) (c : Fin 2) (q k : Fin 4096) : ℝ :=
  (∑ d : Fin 64, x ⟨b.val * 4096 + q.val, by omega⟩ ⟨h.val * 128 + c.val * 64 + d.val, by omega⟩
      * x ⟨b.val * 4096 + k.val, by omega⟩ ⟨512 + (h.val * 128 + c.val * 64 + d.val), by omega⟩)
    - σ h * |(q.val : ℝ) - (k.val : ℝ)|

/-- The value of head `h` at position `k` of batch `b`, lane `e`. -/
def valueAt (x : Fin 16384 → Fin 1536 → ℝ) (b h : Fin 4) (e : Fin 128) (k : Fin 4096) : ℝ :=
  x ⟨b.val * 4096 + k.val, by omega⟩ ⟨1024 + (h.val * 128 + e.val), by omega⟩

/-- The head's output before its normalisation: the first average less `lam` times the second. -/
def mixedAt (x : Fin 16384 → Fin 1536 → ℝ) (σ : Fin 4 → ℝ) (lam : ℝ) (b h : Fin 4) (q : Fin 4096) (e : Fin 128) : ℝ :=
  avg (score x σ b h 0 q) (valueAt x b h e) - lam * avg (score x σ b h 1 q) (valueAt x b h e)

/-- A head's slope as both programs compute it. -/
def slopeE (h : Fin 4) : EReal :=
  Ideal.exp (Ideal.ofBits .f32 0x3F317218#32 *
    Ideal.div (Ideal.ofBits .f32 0xC1000000#32 * (1 + FloatOps.sitofp (F := Ideal) .f32 (BitVec.ofNat 32 h.val))) (Ideal.ofBits .f32 0x40800000#32))

theorem slopeE_real (h : Fin 4) : ∃ σ : ℝ, slopeE h = (σ : EReal) := by
  obtain ⟨a, ha⟩ := ofBits_ln2
  obtain ⟨b, hb⟩ := ofBits_negEight
  have hs : (FloatOps.sitofp (F := Ideal) .f32 (BitVec.ofNat 32 h.val) : EReal) = (((BitVec.ofNat 32 h.val).toInt : ℝ) : EReal) := rfl
  unfold slopeE
  rw [ha, hb, ofBits_four, hs, ← EReal.coe_one, ← EReal.coe_add, ← EReal.coe_mul, div_real four_ne_zero, ← EReal.coe_mul, exp_coe]
  exact ⟨_, rfl⟩

/-- A position's word holds the position. -/
theorem toInt_ofNat_small (n : Nat) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this]; split <;> omega

theorem toInt_sub_small (q k : Nat) (hq : q < 2 ^ 30) (hk : k < 2 ^ 30) :
    (BitVec.ofNat 32 q - BitVec.ofNat 32 k).toInt = (q : ℤ) - (k : ℤ) := by
  rw [BitVec.toInt_sub, toInt_ofNat_small q (by omega), toInt_ofNat_small k (by omega)]
  rw [Int.bmod_eq_of_le] <;> omega

theorem toInt_abs_sub_small (q k : Nat) (hq : q < 2 ^ 30) (hk : k < 2 ^ 30) :
    (IntOp.absi (IntOp.subi (BitVec.ofNat 32 q) (BitVec.ofNat 32 k))).toInt = |(q : ℤ) - (k : ℤ)| := by
  have h := toInt_sub_small q k hq hk
  have hne : BitVec.ofNat 32 q - BitVec.ofNat 32 k ≠ BitVec.intMin 32 := fun e => by
    rw [e] at h; simp [BitVec.toInt_intMin] at h; omega
  have e : IntOp.absi (IntOp.subi (BitVec.ofNat 32 q) (BitVec.ofNat 32 k)) = (BitVec.ofNat 32 q - BitVec.ofNat 32 k).abs := rfl
  rw [e, BitVec.toInt_abs_eq_natAbs_of_ne_intMin hne, h, Int.natCast_natAbs]

theorem dist_real (q k : Nat) (hq : q < 2 ^ 30) (hk : k < 2 ^ 30) :
    (FloatOps.sitofp (F := Ideal) .f32 (IntOp.absi (IntOp.subi (BitVec.ofNat 32 q) (BitVec.ofNat 32 k))) : EReal)
      = ((|(q : ℝ) - (k : ℝ)| : ℝ) : EReal) := by
  have e : (FloatOps.sitofp (F := Ideal) .f32 (IntOp.absi (IntOp.subi (BitVec.ofNat 32 q) (BitVec.ofNat 32 k))) : EReal)
      = (((IntOp.absi (IntOp.subi (BitVec.ofNat 32 q) (BitVec.ofNat 32 k))).toInt : ℝ) : EReal) := rfl
  rw [e, toInt_abs_sub_small q k hq hk]
  push_cast; rfl

end Cert.Proof.Attn

end
-- ==== Proof.Tiles.lean ====
/-
  The kernel's prepared operands read at an index: the masked query pair, the bias tiles and the values beside ones.
-/
module

public import proofs.«01_k».proof.Proof.Out
public import proofs.«01_k».proof.Proof.Score
public import Idealize.ShloMosaic.Lib.Pipeline.ValueKit

@[expose] public section

set_option maxRecDepth 16384

noncomputable section

namespace Cert.Proof.Attn

open Cert.KernelIdeal Cert.KernelIdeal.Gen
open Idealize.ShloMosaic
open scoped BigOperators

/-- The row of a query pair within its tile, less the key within its chunk. -/
def rel (r : Fin 512) (k : Fin 1024) : ℝ := ((r.val % 256 : ℕ) : ℝ) - ((k.val : ℕ) : ℝ)

theorem relWord_cases : ∀ r : Fin 512, Scalar.select (IntOp.cmpi .sge (BitVec.ofNat 32 r.val) 256#32) (IntOp.subi (BitVec.ofNat 32 r.val) 256#32) (BitVec.ofNat 32 r.val)
    = BitVec.ofNat 32 (r.val % 256) := by decide +kernel

theorem pay2_apply (r : Fin 512) (k : Fin 1024) : k0_pay2 (F := Ideal) (ix2 r k) = ((rel r k : ℝ) : EReal) := by
  have h : k0_pay2 (F := Ideal) (ix2 r k) = FloatOps.sitofp (F := Ideal) .f32 (IntOp.subi (Scalar.select (IntOp.cmpi .sge (BitVec.ofNat 32 r.val) 256#32) (IntOp.subi (BitVec.ofNat 32 r.val) 256#32) (BitVec.ofNat 32 r.val)) (BitVec.ofNat 32 k.val)) := by
    pointwise [k0_pay2]
  rw [h, relWord_cases]
  have e : (FloatOps.sitofp (F := Ideal) .f32 (IntOp.subi (BitVec.ofNat 32 (r.val % 256)) (BitVec.ofNat 32 k.val)) : EReal)
      = (((BitVec.ofNat 32 (r.val % 256) - BitVec.ofNat 32 k.val).toInt : ℝ) : EReal) := rfl
  rw [e, toInt_sub_small _ _ (by omega) (by omega)]
  unfold rel
  push_cast; rfl

/-- The bias tile `t` of a head of slope `σ`. -/
def tileR (σ : ℝ) (t : Fin 6) (r : Fin 512) (k : Fin 1024) : ℝ :=
  if t.val = 0 then σ * rel r k else if t.val = 1 then -(σ * rel r k) else σ * |rel r k + 256 * ((t.val : ℝ) - 2)|

theorem pay3_apply (σ : ℝ) (r : Fin 512) (k : Fin 1024) : k0_pay3 (F := Ideal) (σ : EReal) (ix3 0 r k) = ((σ * rel r k : ℝ) : EReal) := by
  have h : k0_pay3 (F := Ideal) (σ : EReal) (ix3 0 r k) = (σ : EReal) * k0_pay2 (F := Ideal) (ix2 r k) := by pointwise [k0_pay3]
  rw [h, pay2_apply, ← EReal.coe_mul]

theorem pay4_apply (σ : ℝ) (r : Fin 512) (k : Fin 1024) : k0_pay4 (F := Ideal) (σ : EReal) (ix3 0 r k) = ((-(σ * rel r k) : ℝ) : EReal) := by
  have h : k0_pay4 (F := Ideal) (σ : EReal) (ix3 0 r k) = (0 - (σ : EReal)) * k0_pay2 (F := Ideal) (ix2 r k) := by pointwise [k0_pay4]
  rw [h, pay2_apply, ← EReal.coe_zero, ← EReal.coe_sub, ← EReal.coe_mul]
  refine congrArg (fun z : ℝ => (z : EReal)) ?_
  ring

theorem absf_real (x : ℝ) : (FloatOps.absf (F := Ideal) (φ := .f32) (x : EReal) : EReal) = ((|x| : ℝ) : EReal) := abs_coe x

theorem pay5_apply (σ : ℝ) (r : Fin 512) (k : Fin 1024) : k0_pay5 (F := Ideal) (σ : EReal) (ix3 0 r k) = ((σ * |rel r k| : ℝ) : EReal) := by
  have h : k0_pay5 (F := Ideal) (σ : EReal) (ix3 0 r k) = (σ : EReal) * FloatOps.absf (F := Ideal) (φ := .f32) (k0_pay2 (F := Ideal) (ix2 r k) + 0) := by pointwise [k0_pay5]
  rw [h, pay2_apply, add_zero, absf_real, ← EReal.coe_mul]

theorem pay6_apply (σ : ℝ) (r : Fin 512) (k : Fin 1024) : k0_pay6 (F := Ideal) (σ : EReal) (ix3 0 r k) = ((σ * |rel r k + 256| : ℝ) : EReal) := by
  have h : k0_pay6 (F := Ideal) (σ : EReal) (ix3 0 r k) = (σ : EReal) * FloatOps.absf (F := Ideal) (φ := .f32) (k0_pay2 (F := Ideal) (ix2 r k) + Ideal.ofBits .f32 0x43800000#32) := by pointwise [k0_pay6]
  rw [h, pay2_apply, ofBits_256, ← EReal.coe_add, absf_real, ← EReal.coe_mul]

theorem pay8_apply (σ : ℝ) (r : Fin 512) (k : Fin 1024) : k0_pay8 (F := Ideal) (σ : EReal) k0_pay7 (ix3 0 r k) = ((σ * |rel r k + 512| : ℝ) : EReal) := by
  have h : k0_pay8 (F := Ideal) (σ : EReal) k0_pay7 (ix3 0 r k) = (σ : EReal) * FloatOps.absf (F := Ideal) (φ := .f32) (k0_pay2 (F := Ideal) (ix2 r k) + Ideal.ofBits .f32 0x44000000#32) := by pointwise [k0_pay8, k0_pay7]
  rw [h, pay2_apply, ofBits_512, ← EReal.coe_add, absf_real, ← EReal.coe_mul]

theorem pay9_apply (σ : ℝ) (r : Fin 512) (k : Fin 1024) : k0_pay9 (F := Ideal) (σ : EReal) k0_pay2 (ix3 0 r k) = ((σ * |rel r k + 768| : ℝ) : EReal) := by
  have h : k0_pay9 (F := Ideal) (σ : EReal) k0_pay2 (ix3 0 r k) = (σ : EReal) * FloatOps.absf (F := Ideal) (φ := .f32) (k0_pay2 (F := Ideal) (ix2 r k) + Ideal.ofBits .f32 0x44400000#32) := by pointwise [k0_pay9]
  rw [h, pay2_apply, ofBits_768, ← EReal.coe_add, absf_real, ← EReal.coe_mul]

theorem local_eq (x : S1x512x1024.Idx) (r : Fin 512) (k : Fin 1024) (h1 : (r.val : ℕ) = (x 1).val) (h2 : (k.val : ℕ) = (x 2).val) : x = ix3 0 r k := by
  funext a
  apply Fin.ext
  match a with
  | ⟨0, _⟩ => have := (x 0).isLt; simp at this ⊢
  | ⟨1, _⟩ => exact h1.symm
  | ⟨2, _⟩ => exact h2.symm

theorem tileR_shift (σ : ℝ) (t : Fin 6) (r : Fin 512) (k : Fin 1024) (v : ℕ) (w : ℝ) (ht : t.val = 2 + v) (hw : 256 * (v : ℝ) = w) :
    tileR σ t r k = σ * |rel r k + w| := by
  unfold tileR
  rw [if_neg (by omega), if_neg (by omega), ht, ← hw]
  push_cast
  rw [add_sub_cancel_left]

theorem biasOf_apply (σ : ℝ) (t : Fin 6) (r : Fin 512) (k : Fin 1024) :
    biasOf (F := Ideal) (σ : EReal) (ix3 t r k) = ((tileR σ t r k : ℝ) : EReal) := by
  unfold biasOf biasPieces
  canon_tiles x h
  · have ht : t.val = 5 + (x 0).val := h0
    rw [local_eq x r k h1 h2, pay9_apply]
    exact congrArg (fun z : ℝ => (z : EReal)) (tileR_shift σ t r k 3 768 (by omega) (by norm_num)).symm
  · have ht : t.val = 4 + (x 0).val := h0
    rw [local_eq x r k h1 h2, pay8_apply]
    exact congrArg (fun z : ℝ => (z : EReal)) (tileR_shift σ t r k 2 512 (by omega) (by norm_num)).symm
  · have ht : t.val = 3 + (x 0).val := h0
    rw [local_eq x r k h1 h2, pay6_apply]
    exact congrArg (fun z : ℝ => (z : EReal)) (tileR_shift σ t r k 1 256 (by omega) (by norm_num)).symm
  · have ht : t.val = 2 + (x 0).val := h0
    rw [local_eq x r k h1 h2, pay5_apply]
    have := tileR_shift σ t r k 0 0 (by omega) (by norm_num)
    rw [add_zero] at this
    exact congrArg (fun z : ℝ => (z : EReal)) this.symm
  · have ht : t.val = 1 + (x 0).val := h0
    rw [local_eq x r k h1 h2, pay4_apply]
    unfold tileR
    rw [if_neg (by omega), if_pos (by omega)]
  · have ht : t.val = (x 0).val := h0
    rw [local_eq x r k h1 h2, pay3_apply]
    unfold tileR
    rw [if_pos (by omega)]

/-! ## The query pair -/

theorem lane_lt : ∀ y : Fin 128, IntOp.cmpi .slt (BitVec.ofNat 32 y.val) 64#32 = BitVec.ofBool (decide (y.val < 64)) := by decide +kernel
theorem lane_ge : ∀ y : Fin 128, IntOp.cmpi .sge (BitVec.ofNat 32 y.val) 64#32 = BitVec.ofBool (decide (64 ≤ y.val)) := by decide +kernel

theorem ld_tile (x5 : S256x128.Idx → Elt Ideal .bf16) (a : Fin 256) (y : Fin 128) :
    View.ld x5 (Rect.unit (s := S256x128) ![0, 0] S256x128.size inb_S256x128_S256x128_0_0) (ix2 a y) = x5 (ix2 a y) := by
  pointwise

theorem ld_vals (x7 : S4096x128.Idx → Elt Ideal .bf16) (a : Fin 4096) (y : Fin 128) :
    View.ld x7 (Rect.unit (s := S4096x128) ![0, 0] S4096x128.size inb_S4096x128_S4096x128_0_0) (ix2 a y) = x7 (ix2 a y) := by
  pointwise

theorem index2 {n m : Nat} (x : (⟨2, ![n, m]⟩ : Shape).Idx) (a : Fin n) (b : Fin m) (h0 : a.val = (x 0).val) (h1 : b.val = (x 1).val) : x = ix2 a b := by
  rw [eq_ix2 x]
  exact congrArg₂ ix2 (Fin.ext h0.symm) (Fin.ext h1.symm)

theorem pay13_apply (x : FVec Ideal S256x128 .bf16) (a : Fin 256) (y : Fin 128) :
    k0_pay13 (F := Ideal) x (ix2 a y) = if y.val < 64 then x (ix2 a y) else 0 := by
  have h : k0_pay13 (F := Ideal) x (ix2 a y) = Scalar.select (IntOp.cmpi .slt (BitVec.ofNat 32 y.val) 64#32) (x (ix2 a y)) 0 := by
    pointwise [k0_pay13, k0_pay12]
  rw [h, lane_lt]
  by_cases hy : y.val < 64 <;> simp [Scalar.select, hy]

theorem pay15_apply (x : FVec Ideal S256x128 .bf16) (a : Fin 256) (y : Fin 128) :
    k0_pay15 (F := Ideal) (k0_pay14 x) (ix2 a y) = if y.val < 64 then 0 else x (ix2 a y) := by
  have h : k0_pay15 (F := Ideal) (k0_pay14 x) (ix2 a y) = Scalar.select (IntOp.cmpi .sge (BitVec.ofNat 32 y.val) 64#32) (x (ix2 a y)) 0 := by
    pointwise [k0_pay15, k0_pay14, k0_pay12]
  rw [h, lane_ge]
  by_cases hy : y.val < 64
  · have hn : ¬ 64 ≤ y.val := by omega
    simp [Scalar.select, hy, hn]
  · have hn : 64 ≤ y.val := by omega
    simp [Scalar.select, hy, hn]

theorem queryOf_apply (x5 : S256x128.Idx → Elt Ideal .bf16) (r : Fin 512) (y : Fin 128) :
    queryOf (F := Ideal) x5 (ix2 r y) = if r.val / 256 = y.val / 64 then x5 (ix2 ⟨r.val % 256, by omega⟩ y) else (0 : EReal) := by
  have h0 : queryOf (F := Ideal) x5 (ix2 r y) = pairOf (F := Ideal) x5 (ix2 r y) := by
    unfold queryOf
    refine View.ld_unit_apply_of _ _ _ _ _ _ fun a => ?_
    match a with
    | ⟨0, _⟩ => simp
    | ⟨1, _⟩ => simp
  rw [h0]
  unfold pairOf
  canon_tiles x h
  · have hr : r.val = 256 + (x 0).val := h0
    have hy : y.val = (x 1).val := h1
    rw [index2 x ⟨r.val % 256, by omega⟩ y (by show r.val % 256 = _; omega) hy, pay15_apply, ld_tile]
    by_cases hc : y.val < 64
    · rw [if_pos hc, if_neg (by omega)]
    · rw [if_neg hc, if_pos (by omega)]
  · have hr : r.val = (x 0).val := h0
    have hy : y.val = (x 1).val := h1
    rw [index2 x ⟨r.val % 256, by omega⟩ y (by show r.val % 256 = _; omega) hy, pay13_apply, ld_tile]
    by_cases hc : y.val < 64
    · rw [if_pos hc, if_pos (by omega)]
    · rw [if_neg hc, if_neg (by omega)]

/-! ## The values beside ones -/

theorem pay11_apply (k : Fin 4096) (e : Fin 128) : k0_pay11 (F := Ideal) (ix2 k e) = 1 := by
  pointwise [k0_pay11]

theorem pay10_apply (x : FVec Ideal S4096x128 .bf16) (k : Fin 4096) (e : Fin 128) : k0_pay10 (F := Ideal) x (ix2 k e) = x (ix2 k e) := by
  pointwise [k0_pay10]

theorem valsOf_apply (x7 : S4096x128.Idx → Elt Ideal .bf16) (k : Fin 4096) (e : Fin 256) :
    valsOf (F := Ideal) x7 (ix2 k e) = if h : e.val < 128 then x7 (ix2 k ⟨e.val, h⟩) else (1 : EReal) := by
  unfold valsOf valPieces
  canon_tiles x h
  · have hk : k.val = (x 0).val := h0
    have he : e.val = 128 + (x 1).val := h1
    rw [index2 x k ⟨e.val - 128, by omega⟩ hk (by show e.val - 128 = _; omega), pay11_apply, dif_neg (by omega)]
  · have hk : k.val = (x 0).val := h0
    have he : e.val = (x 1).val := h1
    have hl : e.val < 128 := by omega
    rw [index2 x k ⟨e.val, hl⟩ hk he, pay10_apply, ld_vals, dif_pos hl]

end Cert.Proof.Attn

end
-- ==== Proof.TileConst.lean ====
/-
  The kernel's tile arithmetic at each grid point: which bias tile a chunk takes, and the constant put back beside it.
-/
module

public import proofs.«01_k».proof.Proof.Tiles

@[expose] public section

set_option maxRecDepth 16384

noncomputable section

namespace Cert.Proof.Attn

open Cert.KernelIdeal Cert.KernelIdeal.Gen
open Idealize.ShloMosaic
open scoped BigOperators

/-- The bias tile that chunk `j` takes at query tile `qi`. -/
def tileIx (qi j : Nat) : Fin 6 :=
  if j < qi / 4 then 0 else if qi / 4 < j then 1 else ⟨2 + qi % 4, by omega⟩

/-- The chunk numbers and key offsets as the kernel's words. -/
def chunkWord (j : Fin 4) : BitVec 32 := BitVec.ofNat 32 j.val
def offWord (j : Fin 4) : BitVec 32 := BitVec.ofNat 32 (j.val * 1024)

theorem off2_eq : ∀ (t : Fin grid0.N) (j : Fin 4), k0_off2 (grid0.coords t) (chunkWord j) (chunkWord j) = ![(tileIx (t.val % 16) j.val).val, 0, 0] := by
  decide +kernel

theorem chunkOf_eq : ∀ (t : Fin grid0.N) (j : Fin 4), Scalar.cmpi .eq (chunkOf (grid0.coords t)) (chunkWord j) = BitVec.ofBool (decide (t.val % 16 / 4 = j.val)) := by
  decide +kernel

theorem corner_eq : ∀ (t : Fin grid0.N) (j : Fin 4),
    (Scalar.absi (Scalar.subi (Scalar.muli (BitVec.ofNat 32 ((grid0.coords t) 2).val) 256#32) (offWord j))).toInt
      = |((t.val % 16 * 256 : ℕ) : ℤ) - ((j.val * 1024 : ℕ) : ℤ)| := by
  decide +kernel

/-- The constant put back beside chunk `j`'s tile. -/
def constR (σ : ℝ) (qi j : Nat) : ℝ := if qi / 4 = j then 0 else (0 - σ) * |((qi * 256 : ℕ) : ℝ) - ((j * 1024 : ℕ) : ℝ)|

theorem tileC_real (σ : ℝ) (t : Fin grid0.N) (j : Fin 4) :
    tileC (F := Ideal) (grid0.coords t) (chunkWord j) (offWord j) (σ : EReal) = ((constR σ (t.val % 16) j.val : ℝ) : EReal) := by
  have e : (Scalar.sitofp (F := Ideal) .f32 (Scalar.absi (Scalar.subi (Scalar.muli (BitVec.ofNat 32 ((grid0.coords t) 2).val) 256#32) (offWord j))) : EReal)
      = (((Scalar.absi (Scalar.subi (Scalar.muli (BitVec.ofNat 32 ((grid0.coords t) 2).val) 256#32) (offWord j))).toInt : ℝ) : EReal) := rfl
  have z : (Scalar.ofBits (F := Ideal) .f32 0x00000000#32 : EReal) = ((0 : ℝ) : EReal) := by
    show Ideal.ofBits .f32 0x00000000#32 = _
    simp [Ideal.ofBits, Ideal.ieee]
  have hm : ∀ a b : ℝ, (Scalar.mulf (F := Ideal) (φ := .f32) (a : EReal) (b : EReal) : EReal) = ((a * b : ℝ) : EReal) := fun a b => (EReal.coe_mul a b).symm
  have hs : ∀ a b : ℝ, (Scalar.subf (F := Ideal) (φ := .f32) (a : EReal) (b : EReal) : EReal) = ((a - b : ℝ) : EReal) := fun a b => (EReal.coe_sub a b).symm
  unfold tileC
  rw [chunkOf_eq, e, corner_eq, z, hs, Int.cast_abs, Int.cast_sub, Int.cast_natCast, Int.cast_natCast, hm]
  unfold constR
  by_cases h : t.val % 16 / 4 = j.val
  · simp [Scalar.select, h]
  · simp [Scalar.select, h]

theorem tileConst_real (σ : ℝ) (t : Fin grid0.N) (j : Fin 4) :
    tileConst (F := Ideal) (grid0.coords t) (σ : EReal) j = ((constR σ (t.val % 16) j.val : ℝ) : EReal) := by
  rw [← tileC_real]
  match j with
  | 0 => rfl
  | 1 => rfl
  | 2 => rfl
  | 3 => rfl

theorem tileIx_lt {qi j : Nat} (h : j < qi / 4) : tileIx qi j = 0 := if_pos h
theorem tileIx_gt {qi j : Nat} (h : qi / 4 < j) : tileIx qi j = 1 := by unfold tileIx; rw [if_neg (by omega), if_pos h]
theorem tileIx_eq {qi j : Nat} (h : j = qi / 4) : (tileIx qi j).val = 2 + qi % 4 := by unfold tileIx; rw [if_neg (by omega), if_neg (by omega)]

theorem tileR_zero (σ : ℝ) (r : Fin 512) (k : Fin 1024) : tileR σ 0 r k = σ * rel r k := if_pos rfl
theorem tileR_one (σ : ℝ) (r : Fin 512) (k : Fin 1024) : tileR σ 1 r k = -(σ * rel r k) := by
  unfold tileR; rw [if_neg (by decide), if_pos (by decide)]

/-- A tile's bias less its constant is the slope times the distance of the positions. -/
theorem tile_const (σ : ℝ) (qi : Nat) (j : Fin 4) (r : Fin 512) (k : Fin 1024) :
    - tileR σ (tileIx qi j.val) r k + constR σ qi j.val
      = - (σ * |((qi * 256 + r.val % 256 : ℕ) : ℝ) - ((j.val * 1024 + k.val : ℕ) : ℝ)|) := by
  have hr : r.val % 256 < 256 := Nat.mod_lt _ (by norm_num)
  have hk := k.isLt
  rcases lt_trichotomy j.val (qi / 4) with h | h | h
  · have h1 : (j.val + 1) * 1024 ≤ qi * 256 := by omega
    have h1' : ((j.val : ℝ) + 1) * 1024 ≤ (qi : ℝ) * 256 := by exact_mod_cast h1
    have hk' : (k.val : ℝ) < 1024 := by exact_mod_cast hk
    have hp : (0 : ℝ) ≤ ((r.val % 256 : ℕ) : ℝ) := Nat.cast_nonneg _
    rw [tileIx_lt h, tileR_zero]
    unfold constR rel
    rw [if_neg (by omega)]
    rw [Nat.cast_add, Nat.cast_add, Nat.cast_mul, Nat.cast_mul]
    rw [abs_of_nonneg (by push_cast; linarith), abs_of_nonneg (by push_cast at *; linarith)]
    push_cast; ring
  · have h1 : qi = j.val * 4 + qi % 4 := by omega
    have h1' : (qi : ℝ) = (j.val : ℝ) * 4 + ((qi % 4 : ℕ) : ℝ) := by exact_mod_cast h1
    rw [tileR_shift σ _ r k (qi % 4) (256 * ((qi % 4 : ℕ) : ℝ)) (tileIx_eq h) rfl]
    unfold constR rel
    rw [if_pos h.symm, add_zero]
    rw [Nat.cast_add, Nat.cast_add, Nat.cast_mul, Nat.cast_mul, h1']
    refine congrArg (fun z => -(σ * |z|)) ?_
    push_cast; ring
  · have h1 : qi * 256 + 256 ≤ j.val * 1024 := by omega
    have h1' : (qi : ℝ) * 256 + 256 ≤ (j.val : ℝ) * 1024 := by exact_mod_cast h1
    have hr' : ((r.val % 256 : ℕ) : ℝ) < 256 := by exact_mod_cast hr
    have hp : (0 : ℝ) ≤ (k.val : ℝ) := Nat.cast_nonneg _
    rw [tileIx_gt h, tileR_one]
    unfold constR rel
    rw [if_neg (by omega)]
    rw [Nat.cast_add, Nat.cast_add, Nat.cast_mul, Nat.cast_mul]
    rw [abs_of_nonpos (by push_cast; linarith), abs_of_nonpos (by push_cast at *; linarith)]
    push_cast; ring

end Cert.Proof.Attn

end
-- ==== Proof.ChunkOps.lean ====
/-
  The steps of a key chunk read at an index, over the extended reals.
-/
module

public import proofs.«01_k».proof.Proof.Out
public import proofs.«01_k».proof.Proof.Reals

@[expose] public section

set_option maxRecDepth 16384

noncomputable section

namespace Cert.Proof.Attn

open Cert.KernelIdeal Cert.KernelIdeal.Gen
open Idealize.ShloMosaic
open scoped BigOperators

theorem scoreV_apply (qs : FVec Ideal S512x128 .bf16) (kb : FVec Ideal S1024x128 .bf16) (bb : FVec Ideal S1x512x1024 .f32)
    (r : Fin 512) (k : Fin 1024) :
    scoreV qs kb bb (ix2 r k) = ∑ x : Fin 128, qs (ix2 r x) * kb (ix2 k x) - bb (ix3 0 r k) := by
  pointwise [scoreV]

theorem maxV_apply (s : FVec Ideal S512x1024 .f32) (tc : Ideal .f32) (r : Fin 512) :
    maxV s tc (ix2 r 0) = Finset.fold max (Ideal.ofBits .f32 0xFF800000#32) (fun x : Fin 1024 => s (ix2 r x)) Finset.univ + tc := by
  pointwise [maxV]

theorem scaleV_apply (m mx : FVec Ideal S512x1 .f32) (r : Fin 512) :
    scaleV m mx (ix2 r 0) = Ideal.exp (m (ix2 r 0) - max (m (ix2 r 0)) (mx (ix2 r 0))) := by
  pointwise [scaleV]

theorem weightV_apply (m : FVec Ideal S512x1 .f32) (s : FVec Ideal S512x1024 .f32) (tc : Ideal .f32) (r : Fin 512) (k : Fin 1024) :
    weightV m tc s (ix2 r k) = Ideal.exp (s (ix2 r k) - (m (ix2 r 0) - tc)) := by
  pointwise [weightV]

theorem accV_apply (al : FVec Ideal S512x1 .f32) (acc : FVec Ideal S512x256 .f32) (p : FVec Ideal S512x1024 .bf16)
    (vb : FVec Ideal S1024x256 .bf16) (r : Fin 512) (e : Fin 256) :
    accV al acc p vb (ix2 r e) = al (ix2 r 0) * acc (ix2 r e) + ∑ x : Fin 1024, p (ix2 r x) * vb (ix2 x e) := by
  pointwise [accV]

theorem runMax_apply (tc : Ideal .f32) (s : FVec Ideal S512x1024 .f32) (m : FVec Ideal S512x1 .f32) (r : Fin 512) :
    runMax tc s m (ix2 r 0) = max (m (ix2 r 0)) (maxV s tc (ix2 r 0)) := by
  pointwise [runMax]

theorem maximum_apply (m mx : FVec Ideal S512x1 .f32) (r : Fin 512) :
    maximumf m mx (ix2 r 0) = max (m (ix2 r 0)) (mx (ix2 r 0)) := by
  pointwise

theorem pay16_apply (r : Fin 512) : k0_pay16 (F := Ideal) (ix2 r 0) = Ideal.ofBits .f32 0xF149F2CA#32 := by
  pointwise [k0_pay16]

theorem pay17_apply (r : Fin 512) (e : Fin 256) : k0_pay17 (F := Ideal) (ix2 r e) = 0 := by
  pointwise [k0_pay17]

end Cert.Proof.Attn

end
-- ==== Proof.Chunks.lean ====
/-
  The running softmax over the four key chunks, over the extended reals: where the scores, the values and the tile
  constants are real, the sums that the kernel keeps are, before chunk `n`, the sums of `exp (score − m) · value`
  over the keys of the chunks before it, for some real `m` of each row.
-/
module

public import proofs.«01_k».proof.Proof.ChunkOps

@[expose] public section

set_option maxRecDepth 16384

noncomputable section

namespace Cert.Proof.Attn

open Cert.KernelIdeal Cert.KernelIdeal.Gen
open Idealize.ShloMosaic
open scoped BigOperators

theorem maxAt_zero {F : FTy → Type} [FloatOps F] (i : grid0.Coords) (sl : F .f32) (S : Fin 4 → FVec F S512x1024 .f32) :
    maxAt i sl S 0 = k0_pay16 := by rw [maxAt]

theorem accAt_zero {F : FTy → Type} [FloatOps F] (i : grid0.Coords) (sl : F .f32) (S : Fin 4 → FVec F S512x1024 .f32) (V : Fin 4 → FVec F S1024x256 .bf16) :
    accAt i sl S V 0 = k0_pay17 := by rw [accAt]

/-- The sums over the keys of the chunks before `n`, relative to `m`. -/
def part (s : Fin 4 → Fin 1024 → ℝ) (v : Fin 4 → Fin 1024 → ℝ) (m : ℝ) : Nat → ℝ
  | 0 => 0
  | n + 1 => part s v m n + if h : n < 4 then ∑ k, Real.exp (s ⟨n, h⟩ k - m) * v ⟨n, h⟩ k else 0

theorem part_shift (s v : Fin 4 → Fin 1024 → ℝ) (m m' : ℝ) (n : Nat) :
    Real.exp (m - m') * part s v m n = part s v m' n := by
  induction n with
  | zero => simp [part]
  | succ n ih =>
    simp only [part, mul_add, ih]
    congr 1
    split
    · rw [Finset.mul_sum]
      refine Finset.sum_congr rfl fun k _ => ?_
      rw [← mul_assoc, ← Real.exp_add]
      congr 2; ring
    · simp

/-- A row's running maximum and sums, at real data. -/
theorem running (i : grid0.Coords) (sl : Ideal .f32) (S : Fin 4 → FVec Ideal S512x1024 .f32) (V : Fin 4 → FVec Ideal S1024x256 .bf16)
    (r : Fin 512) (s : Fin 4 → Fin 1024 → ℝ) (v : Fin 256 → Fin 4 → Fin 1024 → ℝ) (τ : Fin 4 → ℝ)
    (hS : ∀ j k, S j (ix2 r k) = ((s j k : ℝ) : EReal)) (hV : ∀ j k e, V j (ix2 k e) = ((v e j k : ℝ) : EReal))
    (hτ : ∀ j, tileConst i sl j = ((τ j : ℝ) : EReal)) (n : Nat) (hn : n ≤ 4) :
    ∃ m : ℝ, maxAt i sl S n (ix2 r 0) = (m : EReal)
      ∧ ∀ e, accAt i sl S V n (ix2 r e) = ((part (fun j k => s j k + τ j) (v e) m n : ℝ) : EReal) := by
  induction n with
  | zero =>
    obtain ⟨m, hm⟩ := ofBits_start
    refine ⟨m, ?_, fun e => ?_⟩
    · rw [maxAt_zero, pay16_apply]
      exact hm
    · rw [accAt_zero, pay17_apply]
      exact EReal.coe_zero.symm
  | succ n ih =>
    obtain ⟨m, hm, hacc⟩ := ih (by omega)
    have h4 : n < 4 := by omega
    obtain ⟨x, hx⟩ : ∃ x : ℝ, maxV (S ⟨n, h4⟩) ((τ ⟨n, h4⟩ : ℝ) : EReal) (ix2 r 0) = (x : EReal) := by
      obtain ⟨y, hy⟩ := fold_max_real (Finset.univ : Finset (Fin 1024)) ⟨0, Finset.mem_univ _⟩ (s ⟨n, h4⟩)
      refine ⟨y + τ ⟨n, h4⟩, ?_⟩
      rw [maxV_apply, ofBits_negInf]
      simp only [hS]
      rw [hy, EReal.coe_add]
    refine ⟨max m x, ?_, fun e => ?_⟩
    · simp only [maxAt, dif_pos h4, runMax_apply, hm, hτ, hx, coe_max]
    · simp only [accAt, dif_pos h4, runAcc, accV_apply, scaleV_apply, weightV_apply, maximum_apply, hm, hx, hacc, hS, hV, hτ, coe_max,
        ← EReal.coe_sub, exp_coe, ← EReal.coe_mul, coe_sum, ← EReal.coe_add]
      simp only [part, dif_pos h4, part_shift]
      refine congrArg (fun z : ℝ => ((part (fun j k => s j k + τ j) (v e) (max m x) n + z : ℝ) : EReal)) (Finset.sum_congr rfl fun k _ => ?_)
      refine congrArg (fun z => Real.exp z * v e ⟨n, h4⟩ k) ?_
      ring

/-- The keys of the four chunks in one row: a sum over the chunks is the sum over all keys. -/
theorem part_four (s v : Fin 4096 → ℝ) (m : ℝ) :
    part (fun j k => s ⟨j.val * 1024 + k.val, by omega⟩) (fun j k => v ⟨j.val * 1024 + k.val, by omega⟩) m 4
      = ∑ k : Fin 4096, Real.exp (s k - m) * v k := by
  have h : ∑ k : Fin 4096, Real.exp (s k - m) * v k
      = ∑ j : Fin 4, ∑ k : Fin 1024, Real.exp (s ⟨j.val * 1024 + k.val, by omega⟩ - m) * v ⟨j.val * 1024 + k.val, by omega⟩ := by
    rw [← Equiv.sum_comp (finProdFinEquiv (m := 4) (n := 1024)), Fintype.sum_prod_type]
    refine Finset.sum_congr rfl fun j _ => Finset.sum_congr rfl fun k _ => ?_
    have e : finProdFinEquiv (m := 4) (n := 1024) (j, k) = (⟨j.val * 1024 + k.val, by omega⟩ : Fin 4096) := by
      apply Fin.ext; simp [finProdFinEquiv]; omega
    exact congrArg (fun k : Fin 4096 => Real.exp (s k - m) * v k) e
  rw [h, Fin.sum_univ_four]
  simp [part]

end Cert.Proof.Attn

end
-- ==== Proof.Point.lean ====
/-
  One grid point over the reals: at real queries, keys, values, slope and lambda, the running sums are the sums of
  `exp (score − m) · value` over all keys, and the block left is the normalised difference of the two averages.
-/
module

public import proofs.«01_k».proof.Proof.TileConst
public import proofs.«01_k».proof.Proof.Chunks

@[expose] public section

set_option maxRecDepth 16384

noncomputable section

namespace Cert.Proof.Attn

open Cert.KernelIdeal Cert.KernelIdeal.Gen
open Idealize.ShloMosaic
open scoped BigOperators

/-- A component's lanes of the whole head's lanes: the others are masked out. -/
theorem sum_masked (c : ℕ) (hc : c < 2) (a b : Fin 128 → ℝ) :
    ∑ x : Fin 128, (if c = x.val / 64 then a x else 0) * b x
      = ∑ d : Fin 64, a ⟨c * 64 + d.val, by omega⟩ * b ⟨c * 64 + d.val, by omega⟩ := by
  have e : ∀ (i : Fin 2) (d : Fin 64), finProdFinEquiv (m := 2) (n := 64) (i, d) = (⟨i.val * 64 + d.val, by omega⟩ : Fin 128) := fun i d => by
    apply Fin.ext; simp [finProdFinEquiv]; omega
  rw [← Equiv.sum_comp (finProdFinEquiv (m := 2) (n := 64)), Fintype.sum_prod_type, Finset.sum_eq_single ⟨c, hc⟩]
  · refine Finset.sum_congr rfl fun d _ => ?_
    rw [e, if_pos (by show c = (c * 64 + d.val) / 64; omega)]
  · intro i _ hi
    refine Finset.sum_eq_zero fun d _ => ?_
    have hne : i.val ≠ c := fun h => hi (Fin.ext h)
    rw [e, if_neg (by show ¬ c = (i.val * 64 + d.val) / 64; omega), zero_mul]
  · intro h; exact absurd (Finset.mem_univ _) h

/-- The product of a query row of the pair with key `K`, over the row's component. -/
def dotR (xq : Fin 256 → Fin 128 → ℝ) (xk : Fin 4096 → Fin 128 → ℝ) (r : Fin 512) (K : Fin 4096) : ℝ :=
  ∑ d : Fin 64, xq ⟨r.val % 256, by omega⟩ ⟨r.val / 256 * 64 + d.val, by omega⟩ * xk K ⟨r.val / 256 * 64 + d.val, by omega⟩

/-- The score of a query row of the pair with key `K`. -/
def rowScore (xq : Fin 256 → Fin 128 → ℝ) (xk : Fin 4096 → Fin 128 → ℝ) (σ : ℝ) (qi : ℕ) (r : Fin 512) (K : Fin 4096) : ℝ :=
  dotR xq xk r K - σ * |((qi * 256 + r.val % 256 : ℕ) : ℝ) - (K.val : ℝ)|

variable (xq : Fin 256 → Fin 128 → ℝ) (xk xv : Fin 4096 → Fin 128 → ℝ) (σ : ℝ) (t : Fin grid0.N)
variable (x5 : S256x128.Idx → Elt Ideal .bf16) (x6 x7 : S4096x128.Idx → Elt Ideal .bf16)

theorem scoreV_real (h5 : ∀ a y, x5 (ix2 a y) = ((xq a y : ℝ) : EReal)) (kb : FVec Ideal S1024x128 .bf16) (bb : FVec Ideal S1x512x1024 .f32)
    (K : Fin 4096) (r : Fin 512) (k : Fin 1024) (β : ℝ) (hk : ∀ y, kb (ix2 k y) = ((xk K y : ℝ) : EReal)) (hb : bb (ix3 0 r k) = ((β : ℝ) : EReal)) :
    scoreV (F := Ideal) (queryOf x5) kb bb (ix2 r k) = ((dotR xq xk r K - β : ℝ) : EReal) := by
  have hq : ∀ y, queryOf (F := Ideal) x5 (ix2 r y) = (((if r.val / 256 = y.val / 64 then xq ⟨r.val % 256, by omega⟩ y else 0) : ℝ) : EReal) := fun y => by
    rw [queryOf_apply, h5]
    split
    · rfl
    · rfl
  rw [scoreV_apply, hb]
  simp only [hq, hk, ← EReal.coe_mul, coe_sum, ← EReal.coe_sub]
  rw [sum_masked (r.val / 256) (by omega)]
  rfl

theorem ld_keys (h6 : ∀ a y, x6 (ix2 a y) = ((xk a y : ℝ) : EReal)) (o : ℕ) (inb) (ho : o + 1024 ≤ 4096) (k : Fin 1024) (y : Fin 128) :
    View.ld x6 (Rect.unit (s := S4096x128) ![o, 0] S1024x128.size inb) (ix2 k y) = ((xk ⟨o + k.val, by omega⟩ y : ℝ) : EReal) := by
  rw [← h6]
  refine View.ld_unit_apply_of _ _ _ _ _ _ fun a => ?_
  match a with
  | ⟨0, _⟩ => rfl
  | ⟨1, _⟩ => exact (Nat.zero_add _).symm

theorem ld_bias (o : Fin 3 → ℕ) (inb) (T : Fin 6) (ho : o = ![T.val, 0, 0]) (r : Fin 512) (k : Fin 1024) :
    View.ld (biasOf (F := Ideal) (σ : EReal)) (Rect.unit (s := S6x512x1024) o S1x512x1024.size inb) (ix3 0 r k) = ((tileR σ T r k : ℝ) : EReal) := by
  subst ho
  rw [← biasOf_apply]
  refine View.ld_unit_apply_of _ _ _ _ _ _ fun a => ?_
  match a with
  | ⟨0, _⟩ => rfl
  | ⟨1, _⟩ => exact (Nat.zero_add _).symm
  | ⟨2, _⟩ => exact (Nat.zero_add _).symm

theorem scores_real (h5 : ∀ a y, x5 (ix2 a y) = ((xq a y : ℝ) : EReal)) (h6 : ∀ a y, x6 (ix2 a y) = ((xk a y : ℝ) : EReal)) (j : Fin 4)
    (r : Fin 512) (k : Fin 1024) :
    scores (F := Ideal) (grid0.coords t) x5 x6 (biasOf (σ : EReal)) j (ix2 r k)
      = ((dotR xq xk r ⟨j.val * 1024 + k.val, by omega⟩ - tileR σ (tileIx (t.val % 16) j.val) r k : ℝ) : EReal) := by
  match j with
  | 0 => exact scoreV_real xq xk x5 h5 _ _ _ r k _ (fun y => ld_keys xk x6 h6 0 _ (by norm_num) k y) (ld_bias σ _ _ _ (off2_eq t 0) r k)
  | 1 => exact scoreV_real xq xk x5 h5 _ _ _ r k _ (fun y => ld_keys xk x6 h6 1024 _ (by norm_num) k y) (ld_bias σ _ _ _ (off2_eq t 1) r k)
  | 2 => exact scoreV_real xq xk x5 h5 _ _ _ r k _ (fun y => ld_keys xk x6 h6 2048 _ (by norm_num) k y) (ld_bias σ _ _ _ (off2_eq t 2) r k)
  | 3 => exact scoreV_real xq xk x5 h5 _ _ _ r k _ (fun y => ld_keys xk x6 h6 3072 _ (by norm_num) k y) (ld_bias σ _ _ _ (off2_eq t 3) r k)

/-- The values beside ones. -/
def wide (e : Fin 256) (K : Fin 4096) : ℝ := if h : e.val < 128 then xv K ⟨e.val, h⟩ else 1

theorem ld_wide (h7 : ∀ a y, x7 (ix2 a y) = ((xv a y : ℝ) : EReal)) (o : ℕ) (inb) (ho : o + 1024 ≤ 4096) (k : Fin 1024) (e : Fin 256) :
    View.ld (valsOf (F := Ideal) x7) (Rect.unit (s := S4096x256) ![o, 0] S1024x256.size inb) (ix2 k e) = ((wide xv e ⟨o + k.val, by omega⟩ : ℝ) : EReal) := by
  have hw : ((wide xv e ⟨o + k.val, by omega⟩ : ℝ) : EReal) = valsOf (F := Ideal) x7 (ix2 ⟨o + k.val, by omega⟩ e) := by
    rw [valsOf_apply]
    unfold wide
    split
    · rw [h7]
    · rfl
  rw [hw]
  refine View.ld_unit_apply_of _ _ _ _ _ _ fun a => ?_
  match a with
  | ⟨0, _⟩ => rfl
  | ⟨1, _⟩ => exact (Nat.zero_add _).symm

theorem valChunk_real (h7 : ∀ a y, x7 (ix2 a y) = ((xv a y : ℝ) : EReal)) (j : Fin 4) (k : Fin 1024) (e : Fin 256) :
    valChunk (F := Ideal) (valsOf x7) j (ix2 k e) = ((wide xv e ⟨j.val * 1024 + k.val, by omega⟩ : ℝ) : EReal) := by
  match j with
  | 0 => exact ld_wide xv x7 h7 0 _ (by norm_num) k e
  | 1 => exact ld_wide xv x7 h7 1024 _ (by norm_num) k e
  | 2 => exact ld_wide xv x7 h7 2048 _ (by norm_num) k e
  | 3 => exact ld_wide xv x7 h7 3072 _ (by norm_num) k e

/-- The closing sums of a row, relative to some real. -/
theorem acc_real (h5 : ∀ a y, x5 (ix2 a y) = ((xq a y : ℝ) : EReal)) (h6 : ∀ a y, x6 (ix2 a y) = ((xk a y : ℝ) : EReal))
    (h7 : ∀ a y, x7 (ix2 a y) = ((xv a y : ℝ) : EReal)) (r : Fin 512) :
    ∃ m : ℝ, ∀ e, accAt (F := Ideal) (grid0.coords t) (σ : EReal) (scores (grid0.coords t) x5 x6 (biasOf (σ : EReal))) (valChunk (valsOf x7)) 4 (ix2 r e)
      = ((∑ K : Fin 4096, Real.exp (rowScore xq xk σ (t.val % 16) r K - m) * wide xv e K : ℝ) : EReal) := by
  obtain ⟨m, -, h⟩ := running (grid0.coords t) (σ : EReal) (scores (grid0.coords t) x5 x6 (biasOf (σ : EReal))) (valChunk (valsOf x7)) r
    (fun j k => dotR xq xk r ⟨j.val * 1024 + k.val, by omega⟩ - tileR σ (tileIx (t.val % 16) j.val) r k)
    (fun e j k => wide xv e ⟨j.val * 1024 + k.val, by omega⟩) (fun j => constR σ (t.val % 16) j.val)
    (fun j k => scores_real xq xk σ t x5 x6 h5 h6 j r k) (fun j k e => valChunk_real xv x7 h7 j k e) (fun j => tileConst_real σ t j) 4 le_rfl
  refine ⟨m, fun e => (h e).trans (congrArg (fun z : ℝ => (z : EReal)) ?_)⟩
  rw [← part_four]
  refine congrArg (fun s => part s (fun j k => wide xv e ⟨j.val * 1024 + k.val, by omega⟩) m 4) ?_
  funext j k
  have := tile_const σ (t.val % 16) j r k
  unfold rowScore
  simp only
  linarith

end Cert.Proof.Attn

end
-- ==== Proof.BlockOut.lean ====
/-
  The block a grid point leaves, at an index: the difference of the two components' averages, normalised over its lanes.
-/
module

public import proofs.«01_k».proof.Proof.Point

@[expose] public section

set_option maxRecDepth 16384

noncomputable section

namespace Cert.Proof.Attn

open Cert.KernelIdeal Cert.KernelIdeal.Gen
open Idealize.ShloMosaic
open scoped BigOperators

/-- Lambda from the table of its four vectors and its starting value. -/
def lamOf (x4 : S4x64.Idx → EReal) (l : EReal) : EReal :=
  Ideal.exp (∑ x : Fin 64, x4 (ix2 0 x) * x4 (ix2 1 x)) - Ideal.exp (∑ x : Fin 64, x4 (ix2 2 x) * x4 (ix2 3 x)) + l

/-- A row of lanes over its root mean square. -/
def rmsAt (o : Fin 128 → EReal) (z : Fin 128) : EReal :=
  o z * Ideal.rsqrt (Ideal.div (∑ x : Fin 128, o x * o x) (Ideal.ofBits .f32 0x43000000#32) + Ideal.ofBits .f32 0x3727C5AC#32)

theorem pay1_apply (v370 : FVec Ideal S4x64 .f32) (v385 v413 : EReal) (v388 v389 : FVec Ideal S512x128 .f32) (v409 : FVec Ideal S1x128 .f32)
    (r : Fin 256) (z : Fin 128) :
    k0_pay1 (F := Ideal) (k0_pay54 v370 v385 v388 v389 v409 v413) (ix2 r z)
      = rmsAt (fun x => Ideal.div (v388 (ix2 ⟨r.val, by omega⟩ x)) (v389 (ix2 ⟨r.val, by omega⟩ x))
          - lamOf v370 v385 * Ideal.div (v388 (ix2 ⟨256 + r.val, by omega⟩ x)) (v389 (ix2 ⟨256 + r.val, by omega⟩ x))) z
        * v409 (ix2 0 z) * v413 := by
  unfold rmsAt lamOf
  pointwise [k0_pay1, k0_pay54]

theorem ld_num (acc : FVec Ideal S512x256 .f32) (r : Fin 512) (z : Fin 128) :
    View.ld (e' := .f32) (Val := Elt Ideal) acc (Rect.unit (s := S512x256) ![0, 0] S512x128.size inb_S512x256_S512x128_0_0) (ix2 r z) = acc (ix2 r ⟨z.val, by omega⟩) := by
  refine View.ld_unit_apply_of _ _ _ _ _ _ fun a => ?_
  match a with
  | ⟨0, _⟩ => exact (Nat.zero_add _).symm
  | ⟨1, _⟩ => exact (Nat.zero_add _).symm

theorem ld_den (acc : FVec Ideal S512x256 .f32) (r : Fin 512) (z : Fin 128) :
    View.ld (e' := .f32) (Val := Elt Ideal) acc (Rect.unit (s := S512x256) ![0, 128] S512x128.size inb_S512x256_S512x128_0_128) (ix2 r z) = acc (ix2 r ⟨128 + z.val, by omega⟩) := by
  refine View.ld_unit_apply_of _ _ _ _ _ _ fun a => ?_
  match a with
  | ⟨0, _⟩ => exact (Nat.zero_add _).symm
  | ⟨1, _⟩ => rfl

theorem ld_lam (x4 : S4x64.Idx → Elt Ideal .f32) :
    View.ld x4 (Rect.unit (s := S4x64) ![0, 0] S4x64.size inb_S4x64_S4x64_0_0) = x4 := by
  funext i
  refine View.ld_unit_apply_of _ _ _ _ _ _ fun a => ?_
  match a with
  | ⟨0, _⟩ => exact (Nat.zero_add _).symm
  | ⟨1, _⟩ => exact (Nat.zero_add _).symm

theorem ld_gain (x8 : S1x128.Idx → Elt Ideal .f32) :
    View.ld x8 (Rect.unit (s := S1x128) ![0, 0] S1x128.size inb_S1x128_S1x128_0_0) = x8 := by
  funext i
  refine View.ld_unit_apply_of _ _ _ _ _ _ fun a => ?_
  match a with
  | ⟨0, _⟩ => exact (Nat.zero_add _).symm
  | ⟨1, _⟩ => exact (Nat.zero_add _).symm

theorem ld_scal (x3 : S6.Idx → Elt Ideal .f32) (n : Fin 6) (o : Fin 1 → ℕ) (ho : o = ![n.val]) (inb) :
    View.ld x3 (Rect.unit (s := S6) o S1.size inb) (Shape.Idx.first (numel1_S1 ▸ Nat.one_pos)) = x3 (ix1 n) := by
  subst ho
  refine View.ld_unit_apply_of _ _ _ _ _ _ fun a => ?_
  match a with
  | ⟨0, _⟩ => rfl

theorem off1_eq : ∀ t : Fin grid0.N, k0_off1 (grid0.coords t) = ![t.val / 16 % 4] := by decide +kernel

theorem slopeOf_apply (t : Fin grid0.N) (x3 : S6.Idx → Elt Ideal .f32) : slopeOf (F := Ideal) (grid0.coords t) x3 = x3 (ix1 ⟨t.val / 16 % 4, by omega⟩) :=
  ld_scal x3 ⟨t.val / 16 % 4, by omega⟩ _ (off1_eq t) _

/-- A tile row's difference of averages. -/
def mixedRow (xq : Fin 256 → Fin 128 → ℝ) (xk xv : Fin 4096 → Fin 128 → ℝ) (σ lam : ℝ) (qi : ℕ) (r : Fin 256) (e : Fin 128) : ℝ :=
  avg (rowScore xq xk σ qi ⟨r.val, by omega⟩) (fun K => xv K e) - lam * avg (rowScore xq xk σ qi ⟨256 + r.val, by omega⟩) (fun K => xv K e)

theorem attnOut_real (xq : Fin 256 → Fin 128 → ℝ) (xk xv : Fin 4096 → Fin 128 → ℝ) (σ lam : ℝ) (t : Fin grid0.N)
    (x3 : S6.Idx → Elt Ideal .f32) (x4 : S4x64.Idx → Elt Ideal .f32) (x8 : S1x128.Idx → Elt Ideal .f32)
    (x5 : S256x128.Idx → Elt Ideal .bf16) (x6 x7 : S4096x128.Idx → Elt Ideal .bf16)
    (h5 : ∀ a y, x5 (ix2 a y) = ((xq a y : ℝ) : EReal)) (h6 : ∀ a y, x6 (ix2 a y) = ((xk a y : ℝ) : EReal))
    (h7 : ∀ a y, x7 (ix2 a y) = ((xv a y : ℝ) : EReal)) (h3 : x3 (ix1 ⟨t.val / 16 % 4, by omega⟩) = (σ : EReal))
    (h4 : lamOf x4 (x3 (ix1 4)) = (lam : EReal)) (r : Fin 256) (z : Fin 128) :
    attnOut (F := Ideal) (grid0.coords t) x3 x4 x5 x6 x8 (biasOf (σ : EReal)) (valsOf x7) (ix2 r z)
      = rmsAt (fun e => ((mixedRow xq xk xv σ lam (t.val % 16) r e : ℝ) : EReal)) z * x8 (ix2 0 z) * x3 (ix1 5) := by
  have hs : slopeOf (F := Ideal) (grid0.coords t) x3 = (σ : EReal) := (slopeOf_apply t x3).trans h3
  unfold attnOut
  rw [hs]
  refine (pay1_apply _ _ _ _ _ _ r z).trans ?_
  rw [ld_lam, ld_gain, ld_scal x3 4 ![4] rfl, ld_scal x3 5 ![5] rfl, h4]
  have quo : ∀ (R : Fin 512) (e : Fin 128), Ideal.div
      (accAt (F := Ideal) (grid0.coords t) (σ : EReal) (scores (grid0.coords t) x5 x6 (biasOf (σ : EReal))) (valChunk (valsOf x7)) 4 (ix2 R ⟨e.val, by omega⟩))
      (accAt (F := Ideal) (grid0.coords t) (σ : EReal) (scores (grid0.coords t) x5 x6 (biasOf (σ : EReal))) (valChunk (valsOf x7)) 4 (ix2 R ⟨128 + e.val, by omega⟩))
      = ((avg (rowScore xq xk σ (t.val % 16) R) (fun K => xv K e) : ℝ) : EReal) := fun R e => by
    obtain ⟨m, hm⟩ := acc_real xq xk xv σ t x5 x6 x7 h5 h6 h7 R
    have hn : ∀ K, wide xv ⟨e.val, by omega⟩ K = xv K e := fun K => dif_pos e.isLt
    have hd : ∀ K, wide xv ⟨128 + e.val, by omega⟩ K = 1 := fun K => dif_neg (by show ¬ (128 + e.val < 128); omega)
    rw [hm, hm]
    simp only [hn, hd, mul_one]
    rw [div_real (sum_exp_pos _).ne', avg_shift]
  refine congrArg (fun o => rmsAt o z * x8 (ix2 0 z) * x3 (ix1 5)) (funext fun e => ?_)
  rw [ld_num, ld_den, ld_num, ld_den, quo, quo, ← EReal.coe_mul, ← EReal.coe_sub]
  unfold mixedRow
  exact rfl

end Cert.Proof.Attn

end
-- ==== Proof.Entry.lean ====
/-
  The blocks the attention kernel reads, at an index, in terms of the program's arguments.
-/
module

public import proofs.«01_k».proof.Proof.BlockOut
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ)

theorem idxs : ∀ t : Fin cfg0.N, win0_2.index t = ![t.val / 64 * 16 + t.val % 16, t.val / 16 % 4] ∧ win0_3.index t = ![t.val / 64, 4 + t.val / 16 % 4]
    ∧ win0_4.index t = ![t.val / 64, 8 + t.val / 16 % 4] ∧ win0_6.index t = ![t.val / 64 * 16 + t.val % 16, t.val / 16 % 4] ∧ win0_0.index t = ![0]
    ∧ win0_1.index t = ![0, 0] ∧ win0_5.index t = ![0, 0] :=
  (by decide +kernel : ∀ t : Fin grid0.N, _)

theorem lt256 (t : Fin cfg0.N) : t.val < 256 := lt_of_lt_of_le t.isLt (by decide)

theorem query_block (c : Dev nD) (t : Fin cfg0.N) (a : Fin 256) (y : Fin 128) :
    iblk m c 2 t (ix2 a y) = m ((c : Thread nD τ).loc main_arg0)
      (ix2 ⟨t.val / 64 * 4096 + (t.val % 16 * 256 + a.val), by have := lt256 t; omega⟩ ⟨t.val / 16 % 4 * 128 + y.val, by omega⟩) := by
  blk_ext [iblk, V, idxs t]

theorem scal_block (c : Dev nD) (t : Fin cfg0.N) (n : Fin 6) : iblk m c 0 t (ix1 n) = V m c main_v14 (ix1 n) := by
  blk_ext [iblk, idxs t]

/-- The scalar row holds the four slopes, -/
theorem V_scal (c : Dev nD) (n : Fin 4) : (V m c main_v14 : FVec Ideal S6 .f32) (ix1 ⟨n.val, by omega⟩) = slopeE n := by
  unfold V
  after_reads_simp
  pointwise
  after_reads_simp
  pointwise
  rfl

/-- the initial value of the mixing weight, -/
theorem V_scal4 (c : Dev nD) : (V m c main_v14 : FVec Ideal S6 .f32) (ix1 4) = m ((c : Thread nD τ).loc main_arg1) ix0 := by
  unfold V
  after_reads_simp
  pointwise
  after_reads_simp
  pointwise

/-- and one minus it. -/
theorem V_scal5 (c : Dev nD) : (V m c main_v14 : FVec Ideal S6 .f32) (ix1 5) = (1 : EReal) - m ((c : Thread nD τ).loc main_arg1) ix0 := by
  unfold V
  after_reads_simp
  pointwise
  after_reads_simp
  pointwise

theorem V_lam0 (c : Dev nD) (x : Fin 64) : (V m c main_v19 : FVec Ideal S4x64 .f32) (ix2 0 x) = m ((c : Thread nD τ).loc main_arg2) (ix1 x) := by
  unfold V
  after_reads_simp
  pointwise
  after_reads_simp
  pointwise

theorem V_lam1 (c : Dev nD) (x : Fin 64) : (V m c main_v19 : FVec Ideal S4x64 .f32) (ix2 1 x) = m ((c : Thread nD τ).loc main_arg3) (ix1 x) := by
  unfold V
  after_reads_simp
  pointwise
  after_reads_simp
  pointwise

theorem V_lam2 (c : Dev nD) (x : Fin 64) : (V m c main_v19 : FVec Ideal S4x64 .f32) (ix2 2 x) = m ((c : Thread nD τ).loc main_arg4) (ix1 x) := by
  unfold V
  after_reads_simp
  pointwise
  after_reads_simp
  pointwise

theorem V_lam3 (c : Dev nD) (x : Fin 64) : (V m c main_v19 : FVec Ideal S4x64 .f32) (ix2 3 x) = m ((c : Thread nD τ).loc main_arg5) (ix1 x) := by
  unfold V
  after_reads_simp
  pointwise
  after_reads_simp
  pointwise

theorem V_gain (c : Dev nD) (x : Fin 128) : (V m c main_v20 : FVec Ideal S1x128 .f32) (ix2 0 x) = m ((c : Thread nD τ).loc main_arg6) (ix1 x) := by
  entry_read
  pointwise

theorem key_block (c : Dev nD) (t : Fin cfg0.N) (K : Fin 4096) (y : Fin 128) :
    iblk m c 3 t (ix2 K y) = m ((c : Thread nD τ).loc main_arg0)
      (ix2 ⟨t.val / 64 * 4096 + K.val, by have := lt256 t; omega⟩ ⟨512 + (t.val / 16 % 4 * 128 + y.val), by omega⟩) := by
  blk_ext [iblk, V, idxs t]

theorem val_block (c : Dev nD) (t : Fin cfg0.N) (K : Fin 4096) (y : Fin 128) :
    iblk m c 4 t (ix2 K y) = m ((c : Thread nD τ).loc main_arg0)
      (ix2 ⟨t.val / 64 * 4096 + K.val, by have := lt256 t; omega⟩ ⟨1024 + (t.val / 16 % 4 * 128 + y.val), by omega⟩) := by
  blk_ext [iblk, V, idxs t]

theorem lam_block (c : Dev nD) (t : Fin cfg0.N) (n : Fin 4) (x : Fin 64) : iblk m c 1 t (ix2 n x) = V m c main_v19 (ix2 n x) := by
  blk_ext [iblk, idxs t]

theorem gain_block (c : Dev nD) (t : Fin cfg0.N) (x : Fin 128) : iblk m c 5 t (ix2 0 x) = V m c main_v20 (ix2 0 x) := by
  blk_ext [iblk, idxs t]

end Cert.Proof.Attn

end
-- ==== Proof.RefStages.lean ====
/-
  The reference's result as a chain of named stages (head halves, scores, softmax, difference of the two components,
  products with the values, normalisation), each read at an index.
-/
module

public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.SL.Sem
open scoped BigOperators

variable {F : FTy → Type} [FloatOps F]

/-- The argument, a batch at a time. -/
def rows (x : FVec F S16384x1536 .bf16) : FVec F S4x4096x1536 .f32 :=
  shapeCast S4x4096x1536 (extf .f32 x bitsLt_bf16_f32) shapeCasts_S16384x1536_S4x4096x1536

def query (x : FVec F S16384x1536 .bf16) : FVec F S4x4096x4x2x64 .f32 :=
  shapeCast S4x4096x4x2x64 (extractStridedSlice S4x4096x512 ![0, 0, 0] (rows x) slices_S4x4096x1536_S4x4096x512_0_0_0) shapeCasts_S4x4096x512_S4x4096x4x2x64

def key (x : FVec F S16384x1536 .bf16) : FVec F S4x4096x4x2x64 .f32 :=
  shapeCast S4x4096x4x2x64 (extractStridedSlice S4x4096x512 ![0, 0, 512] (rows x) slices_S4x4096x1536_S4x4096x512_0_0_512) shapeCasts_S4x4096x512_S4x4096x4x2x64

def value (x : FVec F S16384x1536 .bf16) : FVec F S4x4096x4x128 .f32 :=
  shapeCast S4x4096x4x128 (extractStridedSlice S4x4096x512 ![0, 0, 1024] (rows x) slices_S4x4096x1536_S4x4096x512_0_0_1024) shapeCasts_S4x4096x512_S4x4096x4x128

/-- The heads' slopes. -/
def slopes : FVec F S4 .f32 :=
  Host.exp (mulf (broadcastInDim S4 ![] bcast_S_S4 (constant S_ .f32 0x3F317218#32))
    (Host.divf (mulf (broadcastInDim S4 ![] bcast_S_S4 (constant S_ .f32 0xC1000000#32))
      (addf (broadcastInDim S4 ![] bcast_S_S4 (constant S_ .f32 0x3F800000#32)) (sitofp .f32 (iotaInDim S4 32 0))))
      (broadcastInDim S4 ![] bcast_S_S4 (constant S_ .f32 0x40800000#32))))

/-- The distance of two positions. -/
def dist : FVec F S4096x4096 .f32 :=
  sitofp .f32 (absi (subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))

/-- The slope times the distance. -/
def bias : FVec F S1x4x1x4096x4096 .f32 :=
  mulf (broadcastInDim S1x4x1x4096x4096 ![0, 1, 2, 3, 4] bcast_S1x4x1x1x1_S1x4x1x4096x4096_0_1_2_3_4 (broadcastInDim S1x4x1x1x1 ![1] bcast_S4_S1x4x1x1x1_1 slopes))
    (broadcastInDim S1x4x1x4096x4096 ![0, 1, 2, 3, 4] bcast_S1x1x1x4096x4096_S1x4x1x4096x4096_0_1_2_3_4 (broadcastInDim S1x1x1x4096x4096 ![3, 4] bcast_S4096x4096_S1x1x1x4096x4096_3_4 dist))

def score (x : FVec F S16384x1536 .bf16) : FVec F S4x4x2x4096x4096 .f32 :=
  subf (Host.dotGeneral dot_S4x4096x4x2x64_S4x4096x4x2x64_S4x4x2x4096x4096_4_4_1_1_023_023 none (query x) (key x))
    (broadcastInDim S4x4x2x4096x4096 ![0, 1, 2, 3, 4] bcast_S1x4x1x4096x4096_S4x4x2x4096x4096_0_1_2_3_4 bias)

def rowTop (s : FVec F S4x4x2x4096x4096 .f32) : FVec F S4x4x2x4096 .f32 :=
  Host.reduce FloatOps.maximumf s (constant S_ .f32 0xFF800000#32) reducesTo_S4x4x2x4096x4096_S4x4x2x4096_d4 h_S_

def rowMax (s : FVec F S4x4x2x4096x4096 .f32) : FVec F S4x4x2x4096 .f32 :=
  maximumf (broadcastInDim S4x4x2x4096 ![] bcast_S_S4x4x2x4096 (constant S_ .f32 0xFF800000#32)) (rowTop s)

def weight (s : FVec F S4x4x2x4096x4096 .f32) : FVec F S4x4x2x4096x4096 .f32 :=
  Host.exp (subf s (broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3 (rowMax s))))

def prob (w : FVec F S4x4x2x4096x4096 .f32) : FVec F S4x4x2x4096x4096 .f32 :=
  Host.divf w (broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3
      (Host.reduceAdd w (constant S_ .f32 0x00000000#32) reducesTo_S4x4x2x4096x4096_S4x4x2x4096_d4 h_S_)))

def lambda (a1 : FVec F S_ .f32) (a2 a3 a4 a5 : FVec F S64 .f32) : FVec F S_ .f32 :=
  addf (subf (Host.exp (Host.reduceAdd (mulf a2 a3) (constant S_ .f32 0x00000000#32) reducesTo_S64_S_d0 h_S_))
    (Host.exp (Host.reduceAdd (mulf a4 a5) (constant S_ .f32 0x00000000#32) reducesTo_S64_S_d0 h_S_))) a1

def mixed (lam : FVec F S_ .f32) (p : FVec F S4x4x2x4096x4096 .f32) : FVec F S4x4x4096x4096 .f32 :=
  subf (shapeCast S4x4x4096x4096 (extractStridedSlice S4x4x1x4096x4096 ![0, 0, 0, 0, 0] p slices_S4x4x2x4096x4096_S4x4x1x4096x4096_0_0_0_0_0) shapeCasts_S4x4x1x4096x4096_S4x4x4096x4096)
    (mulf (broadcastInDim S4x4x4096x4096 ![] bcast_S_S4x4x4096x4096 lam)
      (shapeCast S4x4x4096x4096 (extractStridedSlice S4x4x1x4096x4096 ![0, 0, 1, 0, 0] p slices_S4x4x2x4096x4096_S4x4x1x4096x4096_0_0_1_0_0) shapeCasts_S4x4x1x4096x4096_S4x4x4096x4096))

def attended (v : FVec F S4x4096x4x128 .f32) (w : FVec F S4x4x4096x4096 .f32) : FVec F S4x4096x4x128 .f32 :=
  transpose S4x4096x4x128 [0, 3, 1, 2] (Host.dotGeneral dot_S4x4096x4x128_S4x4x4096x4096_S4x4x128x4096_1_3_3_2_02_01 none v w) transposes_S4x4x128x4096_S4x4096x4x128_0_3_1_2

def normed (a1 : FVec F S_ .f32) (a6 : FVec F S128 .f32) (o : FVec F S4x4096x4x128 .f32) : FVec F S16384x512 .bf16 :=
  truncf .bf16 (shapeCast S16384x512 (mulf (mulf (mulf o
    (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
          (Host.reduceAdd (mulf o o) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x3727C5AC#32))))))
    (broadcastInDim S4x4096x4x128 ![0, 1, 2, 3] bcast_S1x1x1x128_S4x4096x4x128_0_1_2_3 (broadcastInDim S1x1x1x128 ![3] bcast_S128_S1x1x1x128_3 a6)))
    (broadcastInDim S4x4096x4x128 ![] bcast_S_S4x4096x4x128 (subf (constant S_ .f32 0x3F800000#32) a1))) shapeCasts_S4x4096x4x128_S16384x512) bitsLt_bf16_f32

/-- The reference's result is the chain of the stages. -/
theorem res_eq (m : (ℓ : Loc nD τ sig) → Buf (Elt F) ℓ) (c : Dev nD) :
    Value.res_main_v79 m c = normed (m ((c.tc : Thread nD τ).loc main_arg1)) (m ((c.tc : Thread nD τ).loc main_arg6))
      (attended (value (m ((c.tc : Thread nD τ).loc main_arg0)))
        (mixed (lambda (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)))
          (prob (weight (score (m ((c.tc : Thread nD τ).loc main_arg0))))))) := by
  unfold Value.res_main_v79
  rfl

end Cert.Proof.Ref

end
-- ==== Proof.RefMax.lean ====
/-
  The reference's row maxima are real numbers where the scores are.
-/
module

public import proofs.«01_k».proof.Proof.RefStages
public import proofs.«01_k».proof.Proof.Reals

@[expose] public section

set_option maxRecDepth 16384

noncomputable section

namespace Cert.Proof.Ref

open Cert.ReferenceIdeal Cert.ReferenceIdeal.Gen
open Idealize.ShloMosaic Cert.Proof.Attn
open scoped BigOperators

/-- A maximum, from minus infinity, of reals over the indices that drop to one of the result is real. -/
theorem reduce_max_real {s t u : Shape} {axes : List (Fin s.rank)} (h : s.ReducesTo axes t) (hu : 0 < u.numel) (x : FVec Ideal s .f32)
    (init : FVec Ideal u .f32) (hi : init (Shape.Idx.first hu) = (⊥ : EReal)) (hx : ∀ i, ∃ r : ℝ, x i = (r : EReal)) (j : t.Idx) (i₀ : s.Idx)
    (h₀ : h.drop i₀ = j) : ∃ r : ℝ, Host.reduce FloatOps.maximumf x init h hu j = (r : EReal) := by
  obtain ⟨f, hf⟩ : ∃ f : s.Idx → ℝ, ∀ i, x i = ((f i : ℝ) : EReal) := ⟨fun i => (hx i).choose, fun i => (hx i).choose_spec⟩
  obtain ⟨r, hr⟩ := fold_max_real (Finset.univ.filter fun i => h.drop i = j) ⟨i₀, Finset.mem_filter.2 ⟨Finset.mem_univ _, h₀⟩⟩ f
  refine ⟨r, ?_⟩
  rw [Host.reduce_eq_fold, hi, show x = fun i => ((f i : ℝ) : EReal) from funext hf]
  exact hr

theorem drop_last (b h : Fin 4) (c : Fin 2) (q k : Fin 4096) :
    reducesTo_S4x4x2x4096x4096_S4x4x2x4096_d4.drop (ix5 b h c q k) = ix4 b h c q := by
  funext a
  apply Fin.ext
  match a with
  | ⟨0, _⟩ => rfl
  | ⟨1, _⟩ => rfl
  | ⟨2, _⟩ => rfl
  | ⟨3, _⟩ => rfl

theorem rowTop_real (s : FVec Ideal S4x4x2x4096x4096 .f32) (hs : ∀ i, ∃ x : ℝ, s i = (x : EReal)) (b h : Fin 4) (c : Fin 2) (q : Fin 4096) :
    ∃ x : ℝ, rowTop s (ix4 b h c q) = (x : EReal) :=
  reduce_max_real reducesTo_S4x4x2x4096x4096_S4x4x2x4096_d4 h_S_ s (constant S_ .f32 0xFF800000#32) ofBits_negInf hs (ix4 b h c q)
    (ix5 b h c q 0) (drop_last b h c q 0)

theorem max_const (w : FVec Ideal S4x4x2x4096 .f32) (b h : Fin 4) (c : Fin 2) (q : Fin 4096) (r : ℝ) (hw : w (ix4 b h c q) = (r : EReal)) :
    maximumf (broadcastInDim S4x4x2x4096 ![] bcast_S_S4x4x2x4096 (constant S_ .f32 0xFF800000#32)) w (ix4 b h c q) = (r : EReal) := by
  pointwise
  rw [hw, ofBits_negInf]
  exact max_eq_right bot_le

theorem rowMax_real (s : FVec Ideal S4x4x2x4096x4096 .f32) (hs : ∀ i, ∃ x : ℝ, s i = (x : EReal)) (b h : Fin 4) (c : Fin 2) (q : Fin 4096) :
    ∃ x : ℝ, rowMax s (ix4 b h c q) = (x : EReal) := by
  obtain ⟨x, hx⟩ := rowTop_real s hs b h c q
  refine ⟨x, ?_⟩
  unfold rowMax
  exact max_const (rowTop s) b h c q x hx

end Cert.Proof.Ref

end
-- ==== Proof.RefOps.lean ====
/-
  The reference's stages read at an index, over the extended reals.
-/
module

public import proofs.«01_k».proof.Proof.RefStages

@[expose] public section

set_option maxRecDepth 16384

noncomputable section

namespace Cert.Proof.Ref

open Cert.ReferenceIdeal Cert.ReferenceIdeal.Gen
open Idealize.ShloMosaic
open scoped BigOperators

theorem query_apply (x : FVec Ideal S16384x1536 .bf16) (b : Fin 4) (q : Fin 4096) (h : Fin 4) (c : Fin 2) (d : Fin 64) :
    query x (ix5 b q h c d) = x (ix2 ⟨b.val * 4096 + q.val, by omega⟩ ⟨h.val * 128 + c.val * 64 + d.val, by omega⟩) := by
  pointwise [query, rows]

theorem key_apply (x : FVec Ideal S16384x1536 .bf16) (b : Fin 4) (q : Fin 4096) (h : Fin 4) (c : Fin 2) (d : Fin 64) :
    key x (ix5 b q h c d) = x (ix2 ⟨b.val * 4096 + q.val, by omega⟩ ⟨512 + (h.val * 128 + c.val * 64 + d.val), by omega⟩) := by
  pointwise [key, rows]

theorem value_apply (x : FVec Ideal S16384x1536 .bf16) (b : Fin 4) (q : Fin 4096) (h : Fin 4) (d : Fin 128) :
    value x (ix4 b q h d) = x (ix2 ⟨b.val * 4096 + q.val, by omega⟩ ⟨1024 + (h.val * 128 + d.val), by omega⟩) := by
  pointwise [value, rows]

theorem slopes_apply (h : Fin 4) :
    slopes (F := Ideal) (ix1 h) = Ideal.exp (Ideal.ofBits .f32 0x3F317218#32 *
      Ideal.div (Ideal.ofBits .f32 0xC1000000#32 * (1 + FloatOps.sitofp (F := Ideal) .f32 (BitVec.ofNat 32 h.val))) (Ideal.ofBits .f32 0x40800000#32)) := by
  pointwise [slopes]

theorem bias_apply (q k : Fin 4096) (h : Fin 4) :
    bias (F := Ideal) (ix5 0 h 0 q k) = slopes (F := Ideal) (ix1 h)
      * FloatOps.sitofp (F := Ideal) .f32 (IntOp.absi (IntOp.subi (BitVec.ofNat 32 q.val) (BitVec.ofNat 32 k.val))) := by
  pointwise [bias, dist]

theorem score_apply (x : FVec Ideal S16384x1536 .bf16) (b : Fin 4) (q k : Fin 4096) (h : Fin 4) (c : Fin 2) :
    score x (ix5 b h c q k) = ∑ d : Fin 64, query x (ix5 b q h c d) * key x (ix5 b k h c d) - bias (F := Ideal) (ix5 0 h 0 q k) := by
  pointwise [score]

theorem weight_apply (s : FVec Ideal S4x4x2x4096x4096 .f32) (b : Fin 4) (q k : Fin 4096) (h : Fin 4) (c : Fin 2) :
    weight s (ix5 b h c q k) = Ideal.exp (s (ix5 b h c q k) - rowMax s (ix4 b h c q)) := by
  pointwise [weight]

theorem prob_apply (w : FVec Ideal S4x4x2x4096x4096 .f32) (b : Fin 4) (q k : Fin 4096) (h : Fin 4) (c : Fin 2) :
    prob w (ix5 b h c q k) = Ideal.div (w (ix5 b h c q k)) (∑ l : Fin 4096, w (ix5 b h c q l)) := by
  pointwise [prob]

theorem lambda_apply (a1 : FVec Ideal S_ .f32) (a2 a3 a4 a5 : FVec Ideal S64 .f32) :
    lambda a1 a2 a3 a4 a5 ix0 = Ideal.exp (∑ d : Fin 64, a2 (ix1 d) * a3 (ix1 d)) - Ideal.exp (∑ d : Fin 64, a4 (ix1 d) * a5 (ix1 d)) + a1 ix0 := by
  pointwise [lambda]

theorem mixed_apply (lam : FVec Ideal S_ .f32) (p : FVec Ideal S4x4x2x4096x4096 .f32) (b : Fin 4) (q k : Fin 4096) (h : Fin 4) :
    mixed lam p (ix4 b h q k) = p (ix5 b h 0 q k) - lam ix0 * p (ix5 b h 1 q k) := by
  pointwise [mixed]

theorem attended_apply (v : FVec Ideal S4x4096x4x128 .f32) (w : FVec Ideal S4x4x4096x4096 .f32) (b : Fin 4) (q : Fin 4096) (h : Fin 4) (e : Fin 128) :
    attended v w (ix4 b q h e) = ∑ k : Fin 4096, v (ix4 b k h e) * w (ix4 b h q k) := by
  pointwise [attended]

theorem normed_apply (a1 : FVec Ideal S_ .f32) (a6 : FVec Ideal S128 .f32) (o : FVec Ideal S4x4096x4x128 .f32) (R : Fin 16384) (C : Fin 512) :
    normed a1 a6 o (ix2 R C)
      = o (ix4 ⟨R.val / 4096, by omega⟩ ⟨R.val % 4096, by omega⟩ ⟨C.val / 128, by omega⟩ ⟨C.val % 128, by omega⟩)
        * Ideal.rsqrt (Ideal.div (∑ e : Fin 128, o (ix4 ⟨R.val / 4096, by omega⟩ ⟨R.val % 4096, by omega⟩ ⟨C.val / 128, by omega⟩ e)
            * o (ix4 ⟨R.val / 4096, by omega⟩ ⟨R.val % 4096, by omega⟩ ⟨C.val / 128, by omega⟩ e)) (Ideal.ofBits .f32 0x43000000#32)
          + Ideal.ofBits .f32 0x3727C5AC#32) * a6 (ix1 ⟨C.val % 128, by omega⟩) * (1 - a1 ix0) := by
  pointwise [normed]

end Cert.Proof.Ref

end
-- ==== Proof.RefVal.lean ====
/-
  The reference's attention over the reals: at real queries, keys, values, slopes and lambda, the attended values are
  the two softmax averages' difference.
-/
module

public import proofs.«01_k».proof.Proof.RefMax
public import proofs.«01_k».proof.Proof.RefOps
public import proofs.«01_k».proof.Proof.Score

@[expose] public section

set_option maxRecDepth 16384

noncomputable section

namespace Cert.Proof.Ref

open Cert.ReferenceIdeal Cert.ReferenceIdeal.Gen
open Idealize.ShloMosaic
open scoped BigOperators

theorem score_real (x : FVec Ideal S16384x1536 .bf16) (xr : Fin 16384 → Fin 1536 → ℝ) (σ : Fin 4 → ℝ)
    (hx : ∀ a b, x (ix2 a b) = ((xr a b : ℝ) : EReal)) (hσ : ∀ h, Attn.slopeE h = ((σ h : ℝ) : EReal))
    (b h : Fin 4) (c : Fin 2) (q k : Fin 4096) :
    score x (ix5 b h c q k) = ((Attn.score xr σ b h c q k : ℝ) : EReal) := by
  have hs : slopes (F := Ideal) (ix1 h) = ((σ h : ℝ) : EReal) := by rw [← hσ h, slopes_apply]; rfl
  rw [score_apply, bias_apply, hs, Attn.dist_real q.val k.val (by omega) (by omega)]
  simp only [query_apply, key_apply, hx, ← EReal.coe_mul, Attn.coe_sum, ← EReal.coe_sub]
  rfl

theorem score_all (x : FVec Ideal S16384x1536 .bf16) (xr : Fin 16384 → Fin 1536 → ℝ) (σ : Fin 4 → ℝ)
    (hx : ∀ a b, x (ix2 a b) = ((xr a b : ℝ) : EReal)) (hσ : ∀ h, Attn.slopeE h = ((σ h : ℝ) : EReal)) (i : S4x4x2x4096x4096.Idx) :
    ∃ r : ℝ, score x i = (r : EReal) := by
  rw [← ix5_eta i]
  exact ⟨_, score_real x xr σ hx hσ _ _ _ _ _⟩

theorem prob_real (s : FVec Ideal S4x4x2x4096x4096 .f32) (sr : Fin 4 → Fin 4 → Fin 2 → Fin 4096 → Fin 4096 → ℝ)
    (hs : ∀ b h c q k, s (ix5 b h c q k) = ((sr b h c q k : ℝ) : EReal)) (hs' : ∀ i, ∃ r : ℝ, s i = (r : EReal))
    (b h : Fin 4) (c : Fin 2) (q k : Fin 4096) :
    prob (weight s) (ix5 b h c q k) = ((Real.exp (sr b h c q k) / ∑ l, Real.exp (sr b h c q l) : ℝ) : EReal) := by
  obtain ⟨m, hm⟩ := rowMax_real s hs' b h c q
  have hw : ∀ k, weight s (ix5 b h c q k) = ((Real.exp (sr b h c q k - m) : ℝ) : EReal) := fun k => by
    rw [weight_apply, hs, hm, ← EReal.coe_sub, Attn.exp_coe]
  rw [prob_apply]
  simp only [hw, Attn.coe_sum]
  rw [Attn.div_real (Attn.sum_exp_pos _).ne']
  simp only [Real.exp_sub, ← Finset.sum_div]
  refine congrArg (fun z : ℝ => (z : EReal)) ?_
  exact div_div_div_cancel_right₀ (Real.exp_pos m).ne' _ _

theorem attended_real (x : FVec Ideal S16384x1536 .bf16) (xr : Fin 16384 → Fin 1536 → ℝ) (σ : Fin 4 → ℝ) (L : FVec Ideal S_ .f32) (lam : ℝ)
    (hx : ∀ a b, x (ix2 a b) = ((xr a b : ℝ) : EReal)) (hσ : ∀ h, Attn.slopeE h = ((σ h : ℝ) : EReal)) (hL : L ix0 = (lam : EReal))
    (b h : Fin 4) (q : Fin 4096) (e : Fin 128) :
    attended (value x) (mixed L (prob (weight (score x)))) (ix4 b q h e) = ((Attn.mixedAt xr σ lam b h q e : ℝ) : EReal) := by
  rw [attended_apply]
  simp only [value_apply, mixed_apply, hL, hx,
    prob_real (score x) (fun b h c q k => Attn.score xr σ b h c q k) (score_real x xr σ hx hσ) (score_all x xr σ hx hσ),
    ← EReal.coe_mul, ← EReal.coe_sub, Attn.coe_sum]
  refine congrArg (fun z : ℝ => (z : EReal)) ?_
  unfold Attn.mixedAt Attn.avg
  rw [Finset.sum_div, Finset.sum_div, Finset.mul_sum, ← Finset.sum_sub_distrib]
  refine Finset.sum_congr rfl fun k _ => ?_
  unfold Attn.valueAt
  ring

end Cert.Proof.Ref

end
-- ==== Proof.Final.lean ====
/-
  The array the attention kernel writes is the reference's result.
-/
module

public import proofs.«01_k».proof.Proof.Entry
public import proofs.«01_k».proof.Proof.RefVal
public import proofs.«01_k».proof.Proof.RunFrame

@[expose] public section

set_option maxRecDepth 16384

noncomputable section

namespace Cert.Proof.Attn

open Cert.KernelIdeal Cert.KernelIdeal.Gen
open Idealize.ShloMosaic Idealize.ShloMosaic.TcCoe Idealize.SL.Sem

/-! ## The rows of a grid point among the rows of the arrays -/

theorem rowScore_lo (x : Fin 16384 → Fin 1536 → ℝ) (σ : Fin 4 → ℝ) (b h : Fin 4) (qi : Fin 16) (r : Fin 256) (K : Fin 4096) :
    rowScore (fun a y => x ⟨b.val * 4096 + (qi.val * 256 + a.val), by omega⟩ ⟨h.val * 128 + y.val, by omega⟩)
      (fun K y => x ⟨b.val * 4096 + K.val, by omega⟩ ⟨512 + (h.val * 128 + y.val), by omega⟩) (σ h) qi.val ⟨r.val, by omega⟩ K
      = score x σ b h 0 ⟨qi.val * 256 + r.val, by omega⟩ K := by
  have e1 : r.val % 256 = r.val := Nat.mod_eq_of_lt r.isLt
  have e2 : r.val / 256 = 0 := Nat.div_eq_of_lt r.isLt
  unfold rowScore dotR score
  simp only [e1, e2, Nat.zero_mul, Nat.zero_add, Fin.val_zero, Nat.add_zero]

theorem rowScore_hi (x : Fin 16384 → Fin 1536 → ℝ) (σ : Fin 4 → ℝ) (b h : Fin 4) (qi : Fin 16) (r : Fin 256) (K : Fin 4096) :
    rowScore (fun a y => x ⟨b.val * 4096 + (qi.val * 256 + a.val), by omega⟩ ⟨h.val * 128 + y.val, by omega⟩)
      (fun K y => x ⟨b.val * 4096 + K.val, by omega⟩ ⟨512 + (h.val * 128 + y.val), by omega⟩) (σ h) qi.val ⟨256 + r.val, by omega⟩ K
      = score x σ b h 1 ⟨qi.val * 256 + r.val, by omega⟩ K := by
  have e1 : (256 + r.val) % 256 = r.val := by omega
  have e2 : (256 + r.val) / 256 = 1 := by omega
  unfold rowScore dotR score
  simp only [e1, e2, Nat.one_mul, Fin.val_one, Nat.add_assoc]

theorem mixedRow_eq (x : Fin 16384 → Fin 1536 → ℝ) (σ : Fin 4 → ℝ) (lam : ℝ) (b h : Fin 4) (qi : Fin 16) (r : Fin 256) (e : Fin 128) :
    mixedRow (fun a y => x ⟨b.val * 4096 + (qi.val * 256 + a.val), by omega⟩ ⟨h.val * 128 + y.val, by omega⟩)
      (fun K y => x ⟨b.val * 4096 + K.val, by omega⟩ ⟨512 + (h.val * 128 + y.val), by omega⟩)
      (fun K y => x ⟨b.val * 4096 + K.val, by omega⟩ ⟨1024 + (h.val * 128 + y.val), by omega⟩) (σ h) lam qi.val r e
      = mixedAt x σ lam b h ⟨qi.val * 256 + r.val, by omega⟩ e := by
  unfold mixedRow mixedAt
  rw [show _ = score x σ b h 0 ⟨qi.val * 256 + r.val, by omega⟩ from funext fun K => rowScore_lo x σ b h qi r K,
    show _ = score x σ b h 1 ⟨qi.val * 256 + r.val, by omega⟩ from funext fun K => rowScore_hi x σ b h qi r K]
  rfl

variable (m : (ℓ : Loc nD τ sig) → Buf (Elt Ideal) ℓ)

/-- The pair of mixing weights' difference, from the blocks of a point: the reference's mixing weight. -/
theorem lamOf_block (c : Dev nD) (t : Fin cfg0.N) :
    lamOf (iblk m c 1 t) (iblk m c 0 t (ix1 4))
      = Ref.lambda (F := Ideal) (m ((c : Thread nD τ).loc main_arg1)) (m ((c : Thread nD τ).loc main_arg2)) (m ((c : Thread nD τ).loc main_arg3))
          (m ((c : Thread nD τ).loc main_arg4)) (m ((c : Thread nD τ).loc main_arg5)) ix0 := by
  rw [Ref.lambda_apply, scal_block]
  unfold lamOf
  simp only [lam_block]
  erw [V_scal4]
  simp only [show ∀ x : Fin 64, V m c main_v19 (ix2 0 x) = _ from V_lam0 m c, show ∀ x : Fin 64, V m c main_v19 (ix2 1 x) = _ from V_lam1 m c,
    show ∀ x : Fin 64, V m c main_v19 (ix2 2 x) = _ from V_lam2 m c, show ∀ x : Fin 64, V m c main_v19 (ix2 3 x) = _ from V_lam3 m c]

/-- The reference's result over the kernel's arguments. -/
def refOut (c : Dev nD) : FVec Ideal S16384x512 .bf16 :=
  Ref.normed (m ((c : Thread nD τ).loc main_arg1)) (m ((c : Thread nD τ).loc main_arg6))
    (Ref.attended (Ref.value (m ((c : Thread nD τ).loc main_arg0)))
      (Ref.mixed (Ref.lambda (m ((c : Thread nD τ).loc main_arg1)) (m ((c : Thread nD τ).loc main_arg2)) (m ((c : Thread nD τ).loc main_arg3))
          (m ((c : Thread nD τ).loc main_arg4)) (m ((c : Thread nD τ).loc main_arg5)))
        (Ref.prob (Ref.weight (Ref.score (m ((c : Thread nD τ).loc main_arg0)))))))

/-- What the reference leaves at a row and a lane, when the arguments are real. -/
theorem refOut_real (c : Dev nD) (x : Fin 16384 → Fin 1536 → ℝ) (σ : Fin 4 → ℝ) (lam : ℝ)
    (hx : ∀ a b, m ((c : Thread nD τ).loc main_arg0) (ix2 a b) = ((x a b : ℝ) : EReal)) (hσ : ∀ h, slopeE h = ((σ h : ℝ) : EReal))
    (hL : Ref.lambda (F := Ideal) (m ((c : Thread nD τ).loc main_arg1)) (m ((c : Thread nD τ).loc main_arg2)) (m ((c : Thread nD τ).loc main_arg3))
          (m ((c : Thread nD τ).loc main_arg4)) (m ((c : Thread nD τ).loc main_arg5)) ix0 = (lam : EReal))
    (b h : Fin 4) (q : Fin 4096) (z : Fin 128) :
    refOut m c (ix2 ⟨b.val * 4096 + q.val, by omega⟩ ⟨h.val * 128 + z.val, by omega⟩)
      = rmsAt (fun e => ((mixedAt x σ lam b h q e : ℝ) : EReal)) z * (m ((c : Thread nD τ).loc main_arg6) : FVec Ideal S128 .f32) (ix1 z)
          * (1 - (m ((c : Thread nD τ).loc main_arg1) : FVec Ideal S_ .f32) ix0) := by
  unfold refOut
  refine (Ref.normed_apply _ _ _ _ _).trans ?_
  have e1 : (⟨(b.val * 4096 + q.val) / 4096, by omega⟩ : Fin 4) = b := Fin.ext (by dsimp only; omega)
  have e2 : (⟨(b.val * 4096 + q.val) % 4096, by omega⟩ : Fin 4096) = q := Fin.ext (by dsimp only; omega)
  have e3 : (⟨(h.val * 128 + z.val) / 128, by omega⟩ : Fin 4) = h := Fin.ext (by dsimp only; omega)
  have e4 : (⟨(h.val * 128 + z.val) % 128, by omega⟩ : Fin 128) = z := Fin.ext (by dsimp only; omega)
  simp only [e1, e2, e3, e4]
  have key := fun e => Ref.attended_real (m ((c : Thread nD τ).loc main_arg0)) x σ _ lam hx hσ hL b h q e
  simp only [key]
  rfl

/-- What the kernel leaves at a grid point is what the reference has there. -/
theorem outAt_eq (c : Dev nD) (t : Fin cfg0.N) (x : Fin 16384 → Fin 1536 → ℝ) (σ : Fin 4 → ℝ) (lam : ℝ)
    (hx : ∀ a b, m ((c : Thread nD τ).loc main_arg0) (ix2 a b) = ((x a b : ℝ) : EReal)) (hσ : ∀ h, slopeE h = ((σ h : ℝ) : EReal))
    (hL : Ref.lambda (F := Ideal) (m ((c : Thread nD τ).loc main_arg1)) (m ((c : Thread nD τ).loc main_arg2)) (m ((c : Thread nD τ).loc main_arg3))
          (m ((c : Thread nD τ).loc main_arg4)) (m ((c : Thread nD τ).loc main_arg5)) ix0 = (lam : EReal))
    (r : Fin 256) (z : Fin 128) :
    outAt m c t (ix2 r z) = refOut m c (ix2 ⟨t.val / 64 * 4096 + (t.val % 16 * 256 + r.val), by have := lt256 t; omega⟩
      ⟨t.val / 16 % 4 * 128 + z.val, by omega⟩) := by
  have ht := lt256 t
  have hs : (iblk m c 0 t : FVec Ideal S6 .f32) (ix1 ⟨t.val / 16 % 4, by omega⟩) = ((σ ⟨t.val / 16 % 4, by omega⟩ : ℝ) : EReal) :=
    (scal_block m c t _).trans ((V_scal m c ⟨t.val / 16 % 4, by omega⟩).trans (hσ _))
  refine Eq.trans ?_ (refOut_real m c x σ lam hx hσ hL ⟨t.val / 64, by omega⟩ ⟨t.val / 16 % 4, by omega⟩ ⟨t.val % 16 * 256 + r.val, by omega⟩ z).symm
  have hsl : slopeAt m c t = ((σ ⟨t.val / 16 % 4, by omega⟩ : ℝ) : EReal) := by
    unfold slopeAt
    exact (slopeOf_apply t _).trans hs
  unfold outAt
  rw [hsl]
  refine (attnOut_real
    (fun a y => x ⟨t.val / 64 * 4096 + (t.val % 16 * 256 + a.val), by omega⟩ ⟨t.val / 16 % 4 * 128 + y.val, by omega⟩)
    (fun K y => x ⟨t.val / 64 * 4096 + K.val, by omega⟩ ⟨512 + (t.val / 16 % 4 * 128 + y.val), by omega⟩)
    (fun K y => x ⟨t.val / 64 * 4096 + K.val, by omega⟩ ⟨1024 + (t.val / 16 % 4 * 128 + y.val), by omega⟩)
    (σ ⟨t.val / 16 % 4, by omega⟩) lam t _ _ _ _ _ _
    (fun a y => (query_block m c t a y).trans (hx _ _)) (fun K y => (key_block m c t K y).trans (hx _ _))
    (fun K y => (val_block m c t K y).trans (hx _ _)) hs ((lamOf_block m c t).trans hL) r z).trans ?_
  have hm := fun e => mixedRow_eq x σ lam ⟨t.val / 64, by omega⟩ ⟨t.val / 16 % 4, by omega⟩ ⟨t.val % 16, by omega⟩ r e
  dsimp only at hm
  simp only [hm]
  have hg : (iblk m c 5 t : FVec Ideal S1x128 .f32) (ix2 0 z) = (m ((c : Thread nD τ).loc main_arg6) : FVec Ideal S128 .f32) (ix1 z) :=
    (gain_block m c t z).trans (V_gain m c z)
  have h1 : (iblk m c 0 t : FVec Ideal S6 .f32) (ix1 5) = (1 : EReal) - (m ((c : Thread nD τ).loc main_arg1) : FVec Ideal S_ .f32) ix0 :=
    (scal_block m c t 5).trans (V_scal5 m c)
  exact congrArg₂ (· * ·) (congrArg₂ (· * ·) rfl hg) h1

/-- The array after the run is the reference's result. -/
theorem final (c : Dev nD) (x : Fin 16384 → Fin 1536 → ℝ) (lam : ℝ)
    (hx : ∀ a b, m ((c : Thread nD τ).loc main_arg0) (ix2 a b) = ((x a b : ℝ) : EReal))
    (hL : Ref.lambda (F := Ideal) (m ((c : Thread nD τ).loc main_arg1)) (m ((c : Thread nD τ).loc main_arg2)) (m ((c : Thread nD τ).loc main_arg3))
          (m ((c : Thread nD τ).loc main_arg4)) (m ((c : Thread nD τ).loc main_arg5)) ix0 = (lam : EReal)) :
    (dats m 0 c).arrAt 6 cfg0.N = refOut m c := by
  choose σ hσ using slopeE_real
  refine (dats m 0 c).arrAt_eq_of_covers 6 _ (by decide +kernel) fun t _ y => ?_
  blk_simp
  rw [after0_6]
  obtain ⟨r, z, rfl⟩ : ∃ (r : Fin 256) (z : Fin 128), y = ix2 r z := ⟨y 0, y 1, by funext a; match a with | 0 => rfl | 1 => rfl⟩
  refine (outAt_eq m c t x σ lam hx hσ hL r z).trans ?_
  blk_ext [idxs t]

end Cert.Proof.Attn

end
-- ==== Proof.Finite.lean ====
/-
  The precondition read as real numbers: every query, key and value, the initial mixing weight and the four vectors it is
  computed from are real numbers.
-/
module

public import proofs.«01_k».proof.Defs
public import proofs.«01_k».proof.Proof.Reals
public import proofs.«01_k».proof.Proof.RefOps
public import proofs.«01_k».proof.Proof.Gen.KernelIdeal
public import Idealize.ShloMosaic.Lib.Pointwise

@[expose] public section

set_option maxRecDepth 16384

noncomputable section

namespace Cert.Proof.Attn

open Idealize.ShloMosaic Idealize.SL.Sem

/-- The side conditions of the precondition's operations. -/
theorem preFacts : Cert.Pre_finite_arguments.Facts where
  bitsLt_bf16_f32 := by decide
  bcast_S_S16384x1536 := by decide
  bcast_S_S64 := by decide

attribute [local instance] preFacts

/-- A comparison that holds says its number is real. -/
theorem real_of_cmp (z : EReal) (h : BitVec.ofBool (decide ((FloatOps.absf (F := Ideal) (φ := .f32) z : EReal) < Ideal.ofBits .f32 0x7F800000#32)) = 1#1) :
    ∃ r : ℝ, z = (r : EReal) := by
  by_cases hd : (FloatOps.absf (F := Ideal) (φ := .f32) z : EReal) < Ideal.ofBits .f32 0x7F800000#32
  · rw [ofBits_posInf] at hd
    exact real_of_abs_lt hd
  · rw [decide_eq_false hd] at h
    exact absurd h (by decide)

variable (a0 : FVec Ideal ⟨2, ![16384, 1536]⟩ .bf16) (a1 : FVec Ideal ⟨0, ![]⟩ .f32) (a2 a3 a4 a5 : FVec Ideal ⟨1, ![64]⟩ .f32)
  (a6 : FVec Ideal ⟨1, ![128]⟩ .f32)

theorem real0 (h : (Cert.Pre_finite_arguments.fn (F := Ideal) a0 a1 a2 a3 a4 a5 a6).1 = fun _ => 1#1) (R : Fin 16384) (C : Fin 1536) :
    ∃ r : ℝ, a0 (ix2 R C) = (r : EReal) := by
  have e := congrFun h (ix2 R C)
  revert e
  pointwise [Cert.Pre_finite_arguments.fn]
  exact real_of_cmp _

theorem real1 (h : (Cert.Pre_finite_arguments.fn (F := Ideal) a0 a1 a2 a3 a4 a5 a6).2.1 = fun _ => 1#1) : ∃ r : ℝ, a1 ix0 = (r : EReal) := by
  have e := congrFun h ix0
  revert e
  pointwise [Cert.Pre_finite_arguments.fn]
  exact real_of_cmp _

theorem real2 (h : (Cert.Pre_finite_arguments.fn (F := Ideal) a0 a1 a2 a3 a4 a5 a6).2.2.1 = fun _ => 1#1) (x : Fin 64) :
    ∃ r : ℝ, a2 (ix1 x) = (r : EReal) := by
  have e := congrFun h (ix1 x)
  revert e
  pointwise [Cert.Pre_finite_arguments.fn]
  exact real_of_cmp _

theorem real3 (h : (Cert.Pre_finite_arguments.fn (F := Ideal) a0 a1 a2 a3 a4 a5 a6).2.2.2.1 = fun _ => 1#1) (x : Fin 64) :
    ∃ r : ℝ, a3 (ix1 x) = (r : EReal) := by
  have e := congrFun h (ix1 x)
  revert e
  pointwise [Cert.Pre_finite_arguments.fn]
  exact real_of_cmp _

theorem real4 (h : (Cert.Pre_finite_arguments.fn (F := Ideal) a0 a1 a2 a3 a4 a5 a6).2.2.2.2.1 = fun _ => 1#1) (x : Fin 64) :
    ∃ r : ℝ, a4 (ix1 x) = (r : EReal) := by
  have e := congrFun h (ix1 x)
  revert e
  pointwise [Cert.Pre_finite_arguments.fn]
  exact real_of_cmp _

theorem real5 (h : (Cert.Pre_finite_arguments.fn (F := Ideal) a0 a1 a2 a3 a4 a5 a6).2.2.2.2.2 = fun _ => 1#1) (x : Fin 64) :
    ∃ r : ℝ, a5 (ix1 x) = (r : EReal) := by
  have e := congrFun h (ix1 x)
  revert e
  pointwise [Cert.Pre_finite_arguments.fn]
  exact real_of_cmp _

/-- The mixing weight of real vectors is real. -/
theorem lambda_real (h1 : ∃ r : ℝ, a1 ix0 = (r : EReal)) (h2 : ∀ x, ∃ r : ℝ, a2 (ix1 x) = (r : EReal)) (h3 : ∀ x, ∃ r : ℝ, a3 (ix1 x) = (r : EReal))
    (h4 : ∀ x, ∃ r : ℝ, a4 (ix1 x) = (r : EReal)) (h5 : ∀ x, ∃ r : ℝ, a5 (ix1 x) = (r : EReal)) :
    ∃ lam : ℝ, Ref.lambda (F := Ideal) a1 a2 a3 a4 a5 ix0 = (lam : EReal) := by
  obtain ⟨r1, h1⟩ := h1
  choose r2 h2 using h2
  choose r3 h3 using h3
  choose r4 h4 using h4
  choose r5 h5 using h5
  rw [Ref.lambda_apply]
  simp only [h1, h2, h3, h4, h5, ← EReal.coe_mul, coe_sum, exp_coe, ← EReal.coe_sub, ← EReal.coe_add]
  exact ⟨_, rfl⟩

end Cert.Proof.Attn

end
-- ==== Proof.Gelu.lean ====
/-
  The tanh form of the Gaussian error unit over the extended reals: the kernel pulls the argument out of the cubic and
  reads the product of two constants as one; the reference writes the cubic out. Both are the same number at every
  extended real.
-/
module

public import Idealize.ShloMosaic.Lib.Pointwise

@[expose] public section

noncomputable section

namespace Cert.Proof

open Idealize.ShloMosaic

/-- Factoring the cubic, for positive constants, at every extended real. -/
theorem cubic_factored {a c : ℝ} (ha : 0 < a) (hc : 0 < c) (x : EReal) :
    x * ((a : EReal) + ((a * c : ℝ) : EReal) * (x * x)) = (a : EReal) * (x + (c : EReal) * (x * x * x)) := by
  have hac : 0 < a * c := mul_pos ha hc
  induction x using EReal.rec with
  | bot =>
    rw [EReal.bot_mul_bot, EReal.coe_mul_top_of_pos hac, EReal.coe_add_top, EReal.bot_mul_top,
      EReal.top_mul_bot, EReal.coe_mul_bot_of_pos hc, EReal.bot_add, EReal.coe_mul_bot_of_pos ha]
  | top =>
    rw [EReal.top_mul_top, EReal.coe_mul_top_of_pos hac, EReal.coe_add_top, EReal.top_mul_top,
      EReal.coe_mul_top_of_pos hc, EReal.top_add_top, EReal.coe_mul_top_of_pos ha]
  | coe r => norm_cast; ring

theorem ofBits_gelu_c1 : Ideal.ofBits .f32 0x3F4C422A#32 = ((13386282 / 16777216 : ℝ) : EReal) := by
  simp [Ideal.ofBits, Ideal.ieee]; norm_cast
theorem ofBits_gelu_c : Ideal.ofBits .f32 0x3D372713#32 = ((12003091 / 268435456 : ℝ) : EReal) := by
  simp [Ideal.ofBits, Ideal.ieee]; norm_cast

/-- The activation as the reference writes it. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- The activation as the kernel writes it, `k` its folded constant. -/
theorem gelu_kernel (x : EReal) :
    Ideal.ofBits .f32 0x3F000000#32 * x * (1 + Ideal.tanh (x * (Ideal.ofBits .f32 0x3F4C422A#32
      + ((80338380498831 / 2251799813685248 : ℝ) : EReal) * (x * x)))) = gelu x := by
  have h := cubic_factored (a := 13386282 / 16777216) (c := 12003091 / 268435456) (by norm_num) (by norm_num) x
  rw [show (13386282 / 16777216 * (12003091 / 268435456) : ℝ) = 80338380498831 / 2251799813685248 by norm_num] at h
  rw [gelu, ofBits_gelu_c1, ofBits_gelu_c, h, mul_comm (Ideal.ofBits .f32 0x3F000000#32) x, mul_assoc]

/-- One entry of a layer norm of a row of 512 or 1024 numbers, `n` their count. -/
def lnorm {K : ℕ} (n eps : EReal) (f : Fin K → EReal) (g b : EReal) (j : Fin K) : EReal :=
  (f j - Ideal.div (∑ k, f k) n)
    * Ideal.rsqrt (Ideal.div (∑ k, (f k - Ideal.div (∑ l, f l) n) * (f k - Ideal.div (∑ l, f l) n)) n + eps) * g + b

theorem lnorm_congr {K : ℕ} {n eps : EReal} {f f' : Fin K → EReal} {g g' b b' : EReal} {j : Fin K} (hf : ∀ k, f k = f' k)
    (hg : g = g') (hb : b = b') : lnorm n eps f g b j = lnorm n eps f' g' b' j := by
  rw [funext hf, hg, hb]

end Cert.Proof
-- ==== Proof.InProjRef.lean ====
/-
  The reference of the input projection in stages, each read at an index: the projection, the activation and the layer
  norm of the spatial gating unit, and its four results.
-/
module

public import proofs.«01_k».proof.Proof.Gelu
public import proofs.«01_k».proof.Proof.Gen.Reference2Ideal
public import Idealize.ShloMosaic.Lib.Pipeline.ValueKit

@[expose] public section

set_option maxRecDepth 16384

noncomputable section

namespace Cert.Proof.InProj

open Cert.Reference2Ideal Cert.Reference2Ideal.Gen
open Idealize.ShloMosaic Idealize.ShloMosaic.TcCoe Idealize.SL.Sem

variable (a0 : FVec Ideal S4x4096x1024 .f32) (a1 : FVec Ideal S1024x6144 .f32) (a2 : FVec Ideal S3x1024 .f32)
  (a3 a4 : FVec Ideal S512 .f32) (a5 : FVec Ideal S4x128x128 .f32) (a6 : FVec Ideal S4x128 .f32)

/-- The projection of every token. -/
def refH : FVec Ideal S4x4096x6144 .f32 :=
  Host.dotGeneral dot_S4x4096x1024_S1024x6144_S4x4096x6144_2_0_01_1_n_n none a0 a1

/-- Queries, keys and values, the queries scaled. -/
def refQkv : FVec Ideal S16384x1536 .bf16 :=
  shapeCast _ (truncf .bf16 ((concatenate S4x4096x1536 2 [⟨S4x4096x512, ((mulf (extractStridedSlice S4x4096x512 ![0, 0, 0] (refH a0 a1) slices_S4x4096x6144_S4x4096x512_0_0_0) (broadcastInDim S4x4096x512 ![] bcast_S_S4x4096x512 (constant S_ .f32 0x3E000000#32))) : (⟨S4x4096x512, .f32⟩ : BufTy).Contents (Elt Ideal))⟩, ⟨S4x4096x512, ((extractStridedSlice S4x4096x512 ![0, 0, 512] (refH a0 a1) slices_S4x4096x6144_S4x4096x512_0_0_512) : (⟨S4x4096x512, .f32⟩ : BufTy).Contents (Elt Ideal))⟩, ⟨S4x4096x512, ((extractStridedSlice S4x4096x512 ![0, 0, 1024] (refH a0 a1) slices_S4x4096x6144_S4x4096x512_0_0_1024) : (⟨S4x4096x512, .f32⟩ : BufTy).Contents (Elt Ideal))⟩] concatenates_S4x4096x512_S4x4096x512_S4x4096x512_S4x4096x1536_d2 : (⟨S4x4096x1536, .f32⟩ : BufTy).Contents (Elt Ideal))) bitsLt_bf16_f32) shapeCasts_S4x4096x1536_S16384x1536

/-- The input of the state space branch. -/
def refU : FVec Ideal S16384x512 .f32 :=
  shapeCast _ (extractStridedSlice S4x4096x512 ![0, 0, 2560] (refH a0 a1) slices_S4x4096x6144_S4x4096x512_0_0_2560) shapeCasts_S4x4096x512_S16384x512

/-- The branch gates. -/
def refGate : FVec Ideal S16384x3072 .f32 :=
  shapeCast _ (Host.divf (broadcastInDim S4x4096x3x1024 ![] bcast_S_S4x4096x3x1024 (constant S_ .f32 0x3F800000#32)) (addf (broadcastInDim S4x4096x3x1024 ![] bcast_S_S4x4096x3x1024 (constant S_ .f32 0x3F800000#32)) (Host.exp (Host.negf (addf (shapeCast _ (extractStridedSlice S4x4096x3072 ![0, 0, 3072] (refH a0 a1) slices_S4x4096x6144_S4x4096x3072_0_0_3072) shapeCasts_S4x4096x3072_S4x4096x3x1024) (broadcastInDim S4x4096x3x1024 ![0, 1, 2, 3] bcast_S1x1x3x1024_S4x4096x3x1024_0_1_2_3 (broadcastInDim S1x1x3x1024 ![2, 3] bcast_S3x1024_S1x1x3x1024_2_3 a2))))))) shapeCasts_S4x4096x3x1024_S16384x3072

/-- The part of the projection the spatial gating unit reads. -/
def refZpre : FVec Ideal S4x4096x1024 .f32 :=
  extractStridedSlice S4x4096x1024 ![0, 0, 1536] (refH a0 a1) slices_S4x4096x6144_S4x4096x1024_0_0_1536

/-- The same activated. -/
def refZ : FVec Ideal S4x4096x1024 .f32 :=
  mulf (refZpre a0 a1) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (refZpre a0 a1) (mulf (broadcastInDim S4x4096x1024 ![] bcast_S_S4x4096x1024 (constant S_ .f32 0x3D372713#32)) (mulf (mulf (refZpre a0 a1) (refZpre a0 a1)) (refZpre a0 a1))))))))

/-- The half of it that is normed. -/
def refV : FVec Ideal S4x4096x512 .f32 :=
  extractStridedSlice S4x4096x512 ![0, 0, 512] (refZ a0 a1) slices_S4x4096x1024_S4x4096x512_0_0_512

/-- That half less the mean of its row. -/
def refVc : FVec Ideal S4x4096x512 .f32 :=
  subf (refV a0 a1) (broadcastInDim S4x4096x512 ![0, 1, 2] bcast_S4x4096x1_S4x4096x512_0_1_2 (Host.divf (broadcastInDim S4x4096x1 ![0, 1] bcast_S4x4096_S4x4096x1_0_1 (Host.reduceAdd (refV a0 a1) (constant S_ .f32 0x00000000#32) reducesTo_S4x4096x512_S4x4096_d2 h_S_)) (broadcastInDim S4x4096x1 ![] bcast_S_S4x4096x1 (constant S_ .f32 0x44000000#32))))

/-- The normed half. -/
def refVn : FVec Ideal S4x4096x512 .f32 :=
  addf (mulf (mulf (refVc a0 a1) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (refVc a0 a1) (refVc a0 a1)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x3727C5AC#32)))))) (broadcastInDim S4x4096x512 ![0, 1, 2] bcast_S1x1x512_S4x4096x512_0_1_2 (broadcastInDim S1x1x512 ![2] bcast_S512_S1x1x512_2 a3))) (broadcastInDim S4x4096x512 ![0, 1, 2] bcast_S1x1x512_S4x4096x512_0_1_2 (broadcastInDim S1x1x512 ![2] bcast_S512_S1x1x512_2 a4))

/-- The spatial gating unit. -/
def refSgu : FVec Ideal S16384x512 .bf16 :=
  shapeCast _ (truncf .bf16 (mulf (extractStridedSlice S4x4096x512 ![0, 0, 0] (refZ a0 a1) slices_S4x4096x1024_S4x4096x512_0_0_0) (shapeCast _ (addf (transpose S4x32x128x4x128 [1, 2, 4, 0, 3] (Host.dotGeneral dot_S4x32x128x4x128_S4x128x128_S4x4x32x128x128_2_2_014_1_3_0 none (shapeCast _ (refVn a0 a1 a3 a4) shapeCasts_S4x4096x512_S4x32x128x4x128) a5) transposes_S4x4x32x128x128_S4x32x128x4x128_1_2_4_0_3) (broadcastInDim S4x32x128x4x128 ![0, 1, 2, 3, 4] bcast_S1x1x128x4x1_S4x32x128x4x128_0_1_2_3_4 (broadcastInDim S1x1x128x4x1 ![2, 3] bcast_S128x4_S1x1x128x4x1_2_3 (transpose S128x4 [1, 0] a6 transposes_S4x128_S128x4_1_0)))) shapeCasts_S4x32x128x4x128_S4x4096x512)) bitsLt_bf16_f32) shapeCasts_S4x4096x512_S16384x512

theorem refH_at (b : Fin 4) (l : Fin 4096) (e : Fin 6144) :
    refH a0 a1 (ix3 b l e) = ∑ k : Fin 1024, a0 (ix3 b l k) * a1 (ix2 k e) := by
  pointwise [refH]

theorem refZ_at (b : Fin 4) (l : Fin 4096) (j : Fin 1024) :
    refZ a0 a1 (ix3 b l j) = gelu (refH a0 a1 (ix3 b l ⟨1536 + j.val, by omega⟩)) := by
  pointwise [refZ, refZpre]
  rfl

theorem refVn_at (b : Fin 4) (l : Fin 4096) (j : Fin 512) :
    refVn a0 a1 a3 a4 (ix3 b l j) = lnorm (Ideal.ofBits .f32 0x44000000#32) (Ideal.ofBits .f32 0x3727C5AC#32)
      (fun k : Fin 512 => refZ a0 a1 (ix3 b l ⟨512 + k.val, by omega⟩)) (a3 (ix1 j)) (a4 (ix1 j)) j := by
  pointwise [refVn, refVc, refV, lnorm]

theorem refSgu_at (r : Fin 16384) (j : Fin 512) :
    refSgu a0 a1 a3 a4 a5 a6 (ix2 r j) = refZ a0 a1 (ix3 ⟨r.val / 4096, by omega⟩ ⟨r.val % 4096, by omega⟩ ⟨j.val, by omega⟩)
      * ((∑ s : Fin 128, refVn a0 a1 a3 a4 (ix3 ⟨r.val / 4096, by omega⟩ ⟨r.val % 4096 / 128 * 128 + s.val, by omega⟩ j)
          * a5 (ix3 ⟨j.val / 128, by omega⟩ ⟨r.val % 4096 % 128, by omega⟩ s))
        + a6 (ix2 ⟨j.val / 128, by omega⟩ ⟨r.val % 4096 % 128, by omega⟩)) := by
  pointwise [refSgu]

theorem refU_at (r : Fin 16384) (j : Fin 512) :
    refU a0 a1 (ix2 r j) = refH a0 a1 (ix3 ⟨r.val / 4096, by omega⟩ ⟨r.val % 4096, by omega⟩ ⟨2560 + j.val, by omega⟩) := by
  pointwise [refU]

theorem refGate_at (r : Fin 16384) (j : Fin 3072) :
    refGate a0 a1 a2 (ix2 r j) = Ideal.div 1 (1 + Ideal.exp (0 -
      (refH a0 a1 (ix3 ⟨r.val / 4096, by omega⟩ ⟨r.val % 4096, by omega⟩ ⟨3072 + j.val, by omega⟩)
        + a2 (ix2 ⟨j.val / 1024, by omega⟩ ⟨j.val % 1024, by omega⟩)))) := by
  rw [zero_sub]
  pointwise [refGate]

theorem refQkv_at (r : Fin 16384) (j : Fin 1536) :
    refQkv a0 a1 (ix2 r j) = if j.val < 512
      then refH a0 a1 (ix3 ⟨r.val / 4096, by omega⟩ ⟨r.val % 4096, by omega⟩ ⟨j.val, by omega⟩) * Ideal.ofBits .f32 0x3E000000#32
      else refH a0 a1 (ix3 ⟨r.val / 4096, by omega⟩ ⟨r.val % 4096, by omega⟩ ⟨j.val, by omega⟩) := by
  pointwise [refQkv]
  split_ifs
  all_goals first | rfl | blk_ext

end Cert.Proof.InProj
-- ==== Proof.InProjBlocks.lean ====
/-
  The blocks a grid point of the input projection reads, among the arguments.
-/
module

public import proofs.«01_k».proof.Proof.InProjRef
public import proofs.«01_k».proof.Proof.Gen.Kernel2Ideal.Frame
public import Idealize.ShloMosaic.Lib.Pipeline.ValueKit
public import Idealize.ShloMosaic.Lib.StableHlo.ReadAt

@[expose] public section

set_option maxRecDepth 16384

noncomputable section

namespace Cert.Proof.InProj

open Cert.Kernel2Ideal Cert.Kernel2Ideal.Gen
open Idealize.ShloMosaic Idealize.ShloMosaic.TcCoe Idealize.SL.Sem

variable (m : (ℓ : Loc nD τ sig) → Buf (Elt Ideal) ℓ)

/-- The block every window reads at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0]
    ∧ win0_10.index t = ![t.val, 0] :=
  (by decide +kernel : ∀ t : Fin grid0.N, _)

theorem tval (t : Fin cfg0.N) : t.val < 64 := lt_of_lt_of_eq t.isLt N_0

/-! ## The blocks a grid point reads, among the arguments -/

theorem x_at (c : Dev nD) (t : Fin cfg0.N) (r : Fin 256) (k : Fin 1024) :
    (show FVec Ideal S256x1024 .f32 from iblk m c 0 t) (ix2 r k) = (show FVec Ideal S4x4096x1024 .f32 from m ((c : Thread nD τ).loc main_arg0))
      (ix3 ⟨(t.val * 256 + r.val) / 4096, by have := tval t; omega⟩ ⟨(t.val * 256 + r.val) % 4096, by omega⟩ k) := by
  blk_simp [iblk, idx t]
  entry_read
  pointwise
  blk_ext [idx t]

theorem w_at (c : Dev nD) (t : Fin cfg0.N) (k : Fin 1024) (e : Fin 6144) :
    (show FVec Ideal S1024x6144 .bf16 from iblk m c 1 t) (ix2 k e) = (show FVec Ideal S1024x6144 .f32 from m ((c : Thread nD τ).loc main_arg1)) (ix2 k e) := by
  blk_simp [iblk, idx t]
  entry_read
  pointwise
  blk_ext [idx t]

theorem bg_at (c : Dev nD) (t : Fin cfg0.N) (j : Fin 3072) :
    (show FVec Ideal S1x3072 .f32 from iblk m c 2 t) (ix2 0 j) = (show FVec Ideal S3x1024 .f32 from m ((c : Thread nD τ).loc main_arg2))
      (ix2 ⟨j.val / 1024, by omega⟩ ⟨j.val % 1024, by omega⟩) := by
  blk_simp [iblk, idx t]
  entry_read
  pointwise
  blk_ext [idx t]

theorem g_at (c : Dev nD) (t : Fin cfg0.N) (j : Fin 512) :
    (show FVec Ideal S1x512 .f32 from iblk m c 3 t) (ix2 0 j) = (show FVec Ideal S512 .f32 from m ((c : Thread nD τ).loc main_arg3)) (ix1 j) := by
  blk_simp [iblk, idx t]
  entry_read
  pointwise
  blk_ext [idx t]

theorem b_at (c : Dev nD) (t : Fin cfg0.N) (j : Fin 512) :
    (show FVec Ideal S1x512 .f32 from iblk m c 4 t) (ix2 0 j) = (show FVec Ideal S512 .f32 from m ((c : Thread nD τ).loc main_arg4)) (ix1 j) := by
  blk_simp [iblk, idx t]
  entry_read
  pointwise
  blk_ext [idx t]

theorem ws_at (c : Dev nD) (t : Fin cfg0.N) (g : Fin 4) (a b : Fin 128) :
    (show FVec Ideal S4x128x128 .bf16 from iblk m c 5 t) (ix3 g a b) = (show FVec Ideal S4x128x128 .f32 from m ((c : Thread nD τ).loc main_arg5)) (ix3 g a b) := by
  blk_simp [iblk, idx t]
  entry_read
  pointwise
  blk_ext [idx t]

theorem bs_at (c : Dev nD) (t : Fin cfg0.N) (a : Fin 128) (j : Fin 512) :
    (show FVec Ideal S128x512 .f32 from iblk m c 6 t) (ix2 a j) = (show FVec Ideal S4x128 .f32 from m ((c : Thread nD τ).loc main_arg6))
      (ix2 ⟨j.val / 128, by omega⟩ a) := by
  blk_simp [iblk, idx t]
  entry_read
  pointwise
  blk_ext [idx t]

end Cert.Proof.InProj
-- ==== Proof.InProjVal.lean ====
/-
  The four arrays the input projection writes are the reference's results.
-/
module

public import proofs.«01_k».proof.Proof.InProjBlocks

@[expose] public section

set_option maxRecDepth 16384

noncomputable section

namespace Cert.Proof.InProj

open Cert.Kernel2Ideal Cert.Kernel2Ideal.Gen
open Idealize.ShloMosaic Idealize.ShloMosaic.TcCoe Idealize.SL.Sem

variable (m : (ℓ : Loc nD τ sig) → Buf (Elt Ideal) ℓ)

/-- The reference's projection of row `r` of grid point `t`. -/
abbrev hRow (c : Dev nD) (t : Fin cfg0.N) (r : Fin 256) (e : Fin 6144) : EReal :=
  refH (m ((c : Thread nD τ).loc main_arg0)) (m ((c : Thread nD τ).loc main_arg1))
    (ix3 ⟨(t.val * 256 + r.val) / 4096, by have := tval t; omega⟩ ⟨(t.val * 256 + r.val) % 4096, by omega⟩ e)

/-- A row of the products a grid point forms is a row of the reference's projection. -/
theorem h_at (c : Dev nD) (t : Fin cfg0.N) (r : Fin 256) (e : Fin 6144) :
    (∑ k : Fin 1024, (show FVec Ideal S256x1024 .f32 from iblk m c 0 t) (ix2 r k) * (show FVec Ideal S1024x6144 .bf16 from iblk m c 1 t) (ix2 k e))
      = hRow m c t r e := by
  unfold hRow
  rw [refH_at]
  exact Finset.sum_congr rfl fun k _ => congrArg₂ _ (x_at m c t r k) (w_at m c t k e)

theorem u_at (c : Dev nD) (t : Fin cfg0.N) (r : Fin 256) (j : Fin 512) :
    k0_pay2 (F := Ideal) (k0_pay4 (iblk m c 0 t)) (View.ld (iblk m c 1 t) (Rect.unit ![0, 2560] ![1024, 512] inb_S1024x6144_S1024x512_0_2560)) (ix2 r j)
      = hRow m c t r ⟨2560 + j.val, by omega⟩ := by
  pointwise [k0_pay2, k0_pay4]
  exact h_at m c t r ⟨2560 + j.val, by omega⟩

theorem gate_at (c : Dev nD) (t : Fin cfg0.N) (r : Fin 256) (j : Fin 3072) :
    k0_pay3 (F := Ideal) (k0_pay4 (iblk m c 0 t)) (View.ld (iblk m c 1 t) (Rect.unit ![0, 3072] ![1024, 3072] inb_S1024x6144_S1024x3072_0_3072)) (iblk m c 2 t) (ix2 r j)
      = Ideal.div 1 (1 + Ideal.exp (0 - (hRow m c t r ⟨3072 + j.val, by omega⟩
        + (show FVec Ideal S3x1024 .f32 from m ((c : Thread nD τ).loc main_arg2)) (ix2 ⟨j.val / 1024, by omega⟩ ⟨j.val % 1024, by omega⟩)))) := by
  rw [← h_at m c t r, ← bg_at m c t j]
  pointwise [k0_pay3, k0_pay4]

theorem z_at (c : Dev nD) (t : Fin cfg0.N) (r : Fin 256) (j : Fin 1024) :
    k0_pay8 (F := Ideal) (iblk m c 0 t) (View.ld (iblk m c 1 t) (Rect.unit ![0, 1536] ![1024, 1024] inb_S1024x6144_S1024x1024_0_1536)) (ix2 r j)
      = gelu (hRow m c t r ⟨1536 + j.val, by omega⟩) := by
  rw [← h_at m c t r, ← gelu_kernel]
  pointwise [k0_pay8, k0_pay4, IdealRules.named_const.ideal_named_scalar Cert.Kernel2Ideal.κ "gelu_c3" _ _ rfl]

/-- The gating half of a grid point's rows is the reference's. -/
theorem uK_at (c : Dev nD) (t : Fin cfg0.N) (r : Fin 256) (j : Fin 512) :
    k0_pay9 (F := Ideal) (iblk m c 0 t) (View.ld (iblk m c 1 t) (Rect.unit ![0, 1536] ![1024, 1024] inb_S1024x6144_S1024x1024_0_1536)) (ix2 r j)
      = refZ (m ((c : Thread nD τ).loc main_arg0)) (m ((c : Thread nD τ).loc main_arg1))
        (ix3 ⟨(t.val * 256 + r.val) / 4096, by have := tval t; omega⟩ ⟨(t.val * 256 + r.val) % 4096, by omega⟩ ⟨j.val, by omega⟩) := by
  rw [refZ_at]
  pointwise [k0_pay9]
  exact z_at m c t r ⟨j.val, by omega⟩

/-- The other half of a grid point's rows is the reference's. -/
theorem vK_at (c : Dev nD) (t : Fin cfg0.N) (r : Fin 256) (j : Fin 512) :
    k0_pay10 (F := Ideal) (iblk m c 0 t) (View.ld (iblk m c 1 t) (Rect.unit ![0, 1536] ![1024, 1024] inb_S1024x6144_S1024x1024_0_1536)) (ix2 r j)
      = refZ (m ((c : Thread nD τ).loc main_arg0)) (m ((c : Thread nD τ).loc main_arg1))
        (ix3 ⟨(t.val * 256 + r.val) / 4096, by have := tval t; omega⟩ ⟨(t.val * 256 + r.val) % 4096, by omega⟩ ⟨512 + j.val, by omega⟩) := by
  rw [refZ_at]
  pointwise [k0_pay10]
  exact z_at m c t r ⟨512 + j.val, by omega⟩

/-- The kernel's layer norm at an index. -/
theorem norm_at (v : FVec Ideal S256x512 .f32) (g b : FVec Ideal S1x512 .f32) (r : Fin 256) (j : Fin 512) :
    k0_pay13 v (k0_pay11 g) (k0_pay12 b) (ix2 r j) = lnorm (Ideal.ofBits .f32 0x44000000#32) (Ideal.ofBits .f32 0x3727C5AC#32)
      (fun k : Fin 512 => v (ix2 r k)) (g (ix2 0 j)) (b (ix2 0 j)) j := by
  pointwise [k0_pay13, k0_pay11, k0_pay12, lnorm]

/-- The normed half of a grid point's rows is the reference's. -/
theorem vn_at (c : Dev nD) (t : Fin cfg0.N) (r : Fin 256) (j : Fin 512) :
    k0_pay13 (F := Ideal) (k0_pay10 (iblk m c 0 t) (View.ld (iblk m c 1 t) (Rect.unit ![0, 1536] ![1024, 1024] inb_S1024x6144_S1024x1024_0_1536)))
        (k0_pay11 (iblk m c 3 t)) (k0_pay12 (iblk m c 4 t)) (ix2 r j)
      = refVn (m ((c : Thread nD τ).loc main_arg0)) (m ((c : Thread nD τ).loc main_arg1)) (m ((c : Thread nD τ).loc main_arg3)) (m ((c : Thread nD τ).loc main_arg4))
        (ix3 ⟨(t.val * 256 + r.val) / 4096, by have := tval t; omega⟩ ⟨(t.val * 256 + r.val) % 4096, by omega⟩ j) := by
  rw [refVn_at]
  refine (norm_at _ _ _ r j).trans ?_
  exact lnorm_congr (fun k => vK_at m c t r k) (g_at m c t j) (b_at m c t j)

/-- An entry of the spatial gating unit over a grid point's rows: `U` gates, `V` the normed half. -/
def tile (U : FVec Ideal S256x512 .f32) (V : FVec Ideal S256x512 .bf16) (W : FVec Ideal S4x128x128 .bf16) (B : FVec Ideal S128x512 .f32)
    (r : Fin 256) (j : Fin 512) : EReal :=
  U (ix2 r j) * ((∑ s : Fin 128, W (ix3 ⟨j.val / 128, by omega⟩ ⟨r.val % 128, by omega⟩ s) * V (ix2 ⟨r.val / 128 * 128 + s.val, by omega⟩ j))
    + B (ix2 ⟨r.val % 128, by omega⟩ j))

theorem emb_row (t : Fin cfg0.N) (r : Fin 256) : t.val * 256 + r.val < 16384 := by have := tval t; omega

/-- The same entry, of the reference. -/
theorem tile_ref (c : Dev nD) (t : Fin cfg0.N) (r : Fin 256) (j : Fin 512) :
    tile (k0_pay9 (F := Ideal) (iblk m c 0 t) (View.ld (iblk m c 1 t) (Rect.unit ![0, 1536] ![1024, 1024] inb_S1024x6144_S1024x1024_0_1536)))
      (k0_pay13 (F := Ideal) (k0_pay10 (iblk m c 0 t) (View.ld (iblk m c 1 t) (Rect.unit ![0, 1536] ![1024, 1024] inb_S1024x6144_S1024x1024_0_1536)))
        (k0_pay11 (iblk m c 3 t)) (k0_pay12 (iblk m c 4 t))) (iblk m c 5 t) (iblk m c 6 t) r j
      = refSgu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
        (ix2 ⟨t.val * 256 + r.val, emb_row t r⟩ j) := by
  have ht := tval t
  rw [refSgu_at]
  unfold tile
  refine congrArg₂ (· * ·) (uK_at m c t r j) (congrArg₂ (· + ·) (Finset.sum_congr rfl fun s _ => ?_) ((bs_at m c t _ j).trans ?_))
  · rw [mul_comm]
    refine congrArg₂ (· * ·) ((vn_at m c t _ j).trans ?_) ((ws_at m c t _ _ s).trans ?_)
    · blk_ext
    · blk_ext
  · blk_ext

theorem final9 (c : Dev nD) : (dats m 0 c).arrAt 9 (cfgs 0).N
    = refU (m ((c : Thread nD τ).loc main_arg0)) (m ((c : Thread nD τ).loc main_arg1)) := by
  refine (dats m 0 c).arrAt_eq_of_covers 9 _ (by decide +kernel) fun t _ y => ?_
  blk_simp
  rw [after0_9]; unfold outsAt0; frame_out
  refine Eq.trans (congrArg _ (?_ : _ = ix2 (y 0 : Fin 256) (y 1 : Fin 512))) ((u_at m c t (y 0) (y 1)).trans
    ((refU_at _ _ ⟨t.val * 256 + (y 0 : Fin 256).val, emb_row t _⟩ (y 1)).symm.trans (congrArg _ ?_)))
  · blk_ext
  · blk_ext [idx t]

theorem final10 (c : Dev nD) : (dats m 0 c).arrAt 10 (cfgs 0).N
    = refGate (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; unfold outsAt0; frame_out
  refine Eq.trans (congrArg _ (?_ : _ = ix2 (y 0 : Fin 256) (y 1 : Fin 3072))) ((gate_at m c t (y 0) (y 1)).trans
    ((refGate_at _ _ _ ⟨t.val * 256 + (y 0 : Fin 256).val, emb_row t _⟩ (y 1)).symm.trans (congrArg _ ?_)))
  · blk_ext
  · blk_ext [idx t]

theorem final8 (c : Dev nD) : (dats m 0 c).arrAt 8 (cfgs 0).N
    = refSgu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; unfold outsAt0; frame_out
  refine Eq.trans ?_ ((tile_ref m c t (y 0) (y 1)).trans (congrArg _ ?_))
  · unfold k0_pay14 k0_pay15
    generalize k0_pay13 (F := Ideal) _ _ _ = V
    generalize k0_pay9 (F := Ideal) _ _ = U
    canon_tiles x h
    all_goals (open_payloads; pointwise [tile]; blk_point [])
  · blk_ext [idx t]

/-- An entry of the queries, keys and values a grid point writes. -/
def qkvRow (c : Dev nD) (t : Fin cfg0.N) (r : Fin 256) (j : Fin 1536) : EReal :=
  if j.val < 512 then hRow m c t r ⟨j.val, by omega⟩ * Ideal.ofBits .f32 0x3E000000#32 else hRow m c t r ⟨j.val, by omega⟩

theorem q_at (c : Dev nD) (t : Fin cfg0.N) (r : Fin 256) (j : Fin 512) :
    k0_pay6 (F := Ideal) (iblk m c 0 t) (View.ld (iblk m c 1 t) (Rect.unit ![0, 0] ![1024, 1536] inb_S1024x6144_S1024x1536_0_0)) (ix2 r j)
      = qkvRow m c t r ⟨j.val, by omega⟩ := by
  rw [qkvRow, if_pos j.isLt, ← h_at m c t r]
  pointwise [k0_pay6, k0_pay5, k0_pay4]

theorem kv_at (c : Dev nD) (t : Fin cfg0.N) (r : Fin 256) (j : Fin 1024) :
    k0_pay7 (F := Ideal) (iblk m c 0 t) (View.ld (iblk m c 1 t) (Rect.unit ![0, 0] ![1024, 1536] inb_S1024x6144_S1024x1536_0_0)) (ix2 r j)
      = qkvRow m c t r ⟨512 + j.val, by omega⟩ := by
  rw [qkvRow, if_neg (by show ¬ 512 + j.val < 512; omega), ← h_at m c t r]
  pointwise [k0_pay7, k0_pay5, k0_pay4]

theorem final7 (c : Dev nD) : (dats m 0 c).arrAt 7 (cfgs 0).N
    = refQkv (m ((c : Thread nD τ).loc main_arg0)) (m ((c : Thread nD τ).loc main_arg1)) := by
  refine (dats m 0 c).arrAt_eq_of_covers 7 _ (by decide +kernel) fun t _ y => ?_
  blk_simp
  rw [after0_7]; unfold outsAt0; frame_out
  refine Eq.trans (b := qkvRow m c t (y 0) (y 1)) ?_
    ((refQkv_at _ _ ⟨t.val * 256 + (y 0 : Fin 256).val, emb_row t _⟩ (y 1)).symm.trans (congrArg _ ?_))
  · canon_tiles x h using View.cover_of_tiledBy _ ![256, 512] (by sl_kernel_rfl) y
    · refine Eq.trans (congrArg _ (?_ : x = ix2 (x 0 : Fin 256) (x 1 : Fin 1024))) ((kv_at m c t (x 0) (x 1)).trans ?_)
      · blk_ext
      · exact congrArg₂ (qkvRow m c t) (Fin.ext h0.symm) (Fin.ext h1.symm)
    · refine Eq.trans (congrArg _ (?_ : x = ix2 (x 0 : Fin 256) (x 1 : Fin 512))) ((q_at m c t (x 0) (x 1)).trans ?_)
      · blk_ext
      · exact congrArg₂ (qkvRow m c t) (Fin.ext h0.symm) (Fin.ext h1.symm)
  · blk_ext [idx t]

end Cert.Proof.InProj
-- ==== Proof.MergeRef.lean ====
/-
  The reference of the gated merge in stages, each read at an index: the state space branch with its gated linear unit,
  the gated sum of the three branches, the output product beside the residual, and the layer norm.
-/
module

public import proofs.«01_k».proof.Proof.Gelu
public import proofs.«01_k».proof.Proof.Gen.Reference3Ideal
public import Idealize.ShloMosaic.Lib.Pipeline.ValueKit

@[expose] public section

set_option maxRecDepth 16384

noncomputable section

namespace Cert.Proof.Merge

open Cert.Reference3Ideal Cert.Reference3Ideal.Gen
open Idealize.ShloMosaic Idealize.ShloMosaic.TcCoe Idealize.SL.Sem

variable (a0 : FVec Ideal S4x4096x1024 .f32) (a1 a2 : FVec Ideal S16384x512 .bf16) (a3 a4 a5 : FVec Ideal S16384x512 .f32)
  (a6 : FVec Ideal S16384x3072 .f32) (a7 : FVec Ideal S512 .f32) (a8 : FVec Ideal S512x512 .f32) (a9 : FVec Ideal S512 .f32)
  (a10 : FVec Ideal S3x512x1024 .f32) (a11 : FVec Ideal S1024x1024 .f32) (a12 a13 : FVec Ideal S1024 .f32)

/-- The state space branch: its skip and its two scans. -/
def refYpre : FVec Ideal S4x4096x512 .f32 :=
  addf (addf (mulf (shapeCast _ a3 shapeCasts_S16384x512_S4x4096x512) (broadcastInDim S4x4096x512 ![0, 1, 2] bcast_S1x1x512_S4x4096x512_0_1_2 (broadcastInDim S1x1x512 ![2] bcast_S512_S1x1x512_2 a7))) (shapeCast _ a4 shapeCasts_S16384x512_S4x4096x512)) (shapeCast _ a5 shapeCasts_S16384x512_S4x4096x512)

/-- The same activated. -/
def refY : FVec Ideal S4x4096x512 .f32 :=
  mulf (refYpre a3 a4 a5 a7) (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf (refYpre a3 a4 a5 a7) (mulf (broadcastInDim S4x4096x512 ![] bcast_S_S4x4096x512 (constant S_ .f32 0x3D372713#32)) (mulf (mulf (refYpre a3 a4 a5 a7) (refYpre a3 a4 a5 a7)) (refYpre a3 a4 a5 a7))))))))

/-- The same through its gated linear unit. -/
def refS5 : FVec Ideal S4x4096x512 .f32 :=
  mulf (refY a3 a4 a5 a7) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (addf (Host.dotGeneral dot_S4x4096x512_S512x512_S4x4096x512_2_0_01_1_n_n none (refY a3 a4 a5 a7) a8) (broadcastInDim S4x4096x512 ![0, 1, 2] bcast_S1x1x512_S4x4096x512_0_1_2 (broadcastInDim S1x1x512 ![2] bcast_S512_S1x1x512_2 a9)))))))

/-- The three branches. -/
def refBranch : FVec Ideal S4x4096x3x512 .f32 :=
  (concatenate S4x4096x3x512 2 [⟨S4x4096x1x512, ((broadcastInDim S4x4096x1x512 ![0, 1, 3] bcast_S4x4096x512_S4x4096x1x512_0_1_3 (shapeCast _ (extf .f32 a1 bitsLt_bf16_f32) shapeCasts_S16384x512_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (shapeCast _ (extf .f32 a2 bitsLt_bf16_f32) shapeCasts_S16384x512_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (refS5 a3 a4 a5 a7 a8 a9)) : (⟨S4x4096x1x512, .f32⟩ : BufTy).Contents (Elt Ideal))⟩] concatenates_S4x4096x1x512_S4x4096x1x512_S4x4096x1x512_S4x4096x3x512_d2 : (⟨S4x4096x3x512, .f32⟩ : BufTy).Contents (Elt Ideal))

/-- Their projections, gated and summed. -/
def refMix : FVec Ideal S4x4096x1024 .f32 :=
  Host.reduceAdd (mulf (shapeCast _ a6 shapeCasts_S16384x3072_S4x4096x3x1024) (transpose S4x4096x3x1024 [2, 3, 0, 1] (Host.dotGeneral dot_S3x512x1024_S4x4096x3x512_S3x1024x4x4096_1_3_2_01_0_2 none a10 (refBranch a1 a2 a3 a4 a5 a7 a8 a9)) transposes_S3x1024x4x4096_S4x4096x3x1024_2_3_0_1)) (constant S_ .f32 0x00000000#32) reducesTo_S4x4096x3x1024_S4x4096x1024_d2 h_S_

/-- The output product beside the scaled residual. -/
def refRes : FVec Ideal S4x4096x1024 .f32 :=
  addf (mulf (broadcastInDim S4x4096x1024 ![] bcast_S_S4x4096x1024 (constant S_ .f32 0x3FD744FD#32)) a0) (Host.dotGeneral dot_S4x4096x1024_S1024x1024_S4x4096x1024_2_0_01_1_n_n none (refMix a1 a2 a3 a4 a5 a6 a7 a8 a9 a10) a11)

/-- That less the mean of its row. -/
def refXc : FVec Ideal S4x4096x1024 .f32 :=
  subf (refRes a0 a1 a2 a3 a4 a5 a6 a7 a8 a9 a10 a11) (broadcastInDim S4x4096x1024 ![0, 1, 2] bcast_S4x4096x1_S4x4096x1024_0_1_2 (Host.divf (broadcastInDim S4x4096x1 ![0, 1] bcast_S4x4096_S4x4096x1_0_1 (Host.reduceAdd (refRes a0 a1 a2 a3 a4 a5 a6 a7 a8 a9 a10 a11) (constant S_ .f32 0x00000000#32) reducesTo_S4x4096x1024_S4x4096_d2 h_S_)) (broadcastInDim S4x4096x1 ![] bcast_S_S4x4096x1 (constant S_ .f32 0x44800000#32))))

/-- The result. -/
def refOut : FVec Ideal S16384x1024 .f32 :=
  shapeCast _ (addf (mulf (mulf (refXc a0 a1 a2 a3 a4 a5 a6 a7 a8 a9 a10 a11) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refXc a0 a1 a2 a3 a4 a5 a6 a7 a8 a9 a10 a11) (refXc a0 a1 a2 a3 a4 a5 a6 a7 a8 a9 a10 a11)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 a12))) (broadcastInDim S4x4096x1024 ![0, 1, 2] bcast_S1x1x1024_S4x4096x1024_0_1_2 (broadcastInDim S1x1x1024 ![2] bcast_S1024_S1x1x1024_2 a13))) shapeCasts_S4x4096x1024_S16384x1024

theorem refYpre_at (b : Fin 4) (l : Fin 4096) (j : Fin 512) :
    refYpre a3 a4 a5 a7 (ix3 b l j) = a3 (ix2 ⟨b.val * 4096 + l.val, by omega⟩ j) * a7 (ix1 j) + a4 (ix2 ⟨b.val * 4096 + l.val, by omega⟩ j)
      + a5 (ix2 ⟨b.val * 4096 + l.val, by omega⟩ j) := by
  pointwise [refYpre]

theorem refY_at (b : Fin 4) (l : Fin 4096) (j : Fin 512) :
    refY a3 a4 a5 a7 (ix3 b l j) = gelu (refYpre a3 a4 a5 a7 (ix3 b l j)) := by
  pointwise [refY]
  rfl

theorem refS5_at (b : Fin 4) (l : Fin 4096) (j : Fin 512) :
    refS5 a3 a4 a5 a7 a8 a9 (ix3 b l j) = refY a3 a4 a5 a7 (ix3 b l j)
      * Ideal.div 1 (1 + Ideal.exp (0 - (∑ x : Fin 512, refY a3 a4 a5 a7 (ix3 b l x) * a8 (ix2 x j) + a9 (ix1 j)))) := by
  rw [zero_sub]
  pointwise [refS5]

theorem refMix_at (b : Fin 4) (l : Fin 4096) (d : Fin 1024) :
    refMix a1 a2 a3 a4 a5 a6 a7 a8 a9 a10 (ix3 b l d)
      = a6 (ix2 ⟨b.val * 4096 + l.val, by omega⟩ ⟨d.val, by omega⟩)
          * (∑ x : Fin 512, a1 (ix2 ⟨b.val * 4096 + l.val, by omega⟩ x) * a10 (ix3 0 x d))
        + a6 (ix2 ⟨b.val * 4096 + l.val, by omega⟩ ⟨1024 + d.val, by omega⟩)
          * (∑ x : Fin 512, a2 (ix2 ⟨b.val * 4096 + l.val, by omega⟩ x) * a10 (ix3 1 x d))
        + a6 (ix2 ⟨b.val * 4096 + l.val, by omega⟩ ⟨2048 + d.val, by omega⟩)
          * (∑ x : Fin 512, refS5 a3 a4 a5 a7 a8 a9 (ix3 b l x) * a10 (ix3 2 x d)) := by
  pointwise [refMix]
  rw [Fin.sum_univ_three]
  refine congrArg₂ (· + ·) (congrArg₂ (· + ·) ?_ ?_) ?_
  all_goals refine congrArg₂ (· * ·) (congrArg a6 ?_) (Finset.sum_congr rfl fun x _ => ?_)
  · blk_ext
  · refine (mul_comm _ _).trans (congrArg₂ (· * ·) ?_ rfl)
    pointwise [refBranch]
  · blk_ext
  · refine (mul_comm _ _).trans (congrArg₂ (· * ·) ?_ rfl)
    pointwise [refBranch]
  · blk_ext
  · refine (mul_comm _ _).trans (congrArg₂ (· * ·) ?_ rfl)
    pointwise [refBranch]

theorem refRes_at (b : Fin 4) (l : Fin 4096) (d : Fin 1024) :
    refRes a0 a1 a2 a3 a4 a5 a6 a7 a8 a9 a10 a11 (ix3 b l d) = Ideal.ofBits .f32 0x3FD744FD#32 * a0 (ix3 b l d)
      + ∑ x : Fin 1024, refMix a1 a2 a3 a4 a5 a6 a7 a8 a9 a10 (ix3 b l x) * a11 (ix2 x d) := by
  pointwise [refRes]

theorem refOut_at (r : Fin 16384) (j : Fin 1024) :
    refOut a0 a1 a2 a3 a4 a5 a6 a7 a8 a9 a10 a11 a12 a13 (ix2 r j) = lnorm (Ideal.ofBits .f32 0x44800000#32) (Ideal.ofBits .f32 0x3727C5AC#32)
      (fun k : Fin 1024 => refRes a0 a1 a2 a3 a4 a5 a6 a7 a8 a9 a10 a11 (ix3 ⟨r.val / 4096, by omega⟩ ⟨r.val % 4096, by omega⟩ k))
      (a12 (ix1 j)) (a13 (ix1 j)) j := by
  pointwise [refOut, refXc, lnorm]

end Cert.Proof.Merge
-- ==== Proof.MergeBlocks.lean ====
/-
  The blocks a grid point of the gated merge reads, among the arguments.
-/
module

public import proofs.«01_k».proof.Proof.MergeRef
public import proofs.«01_k».proof.Proof.Gen.Kernel3Ideal.Frame
public import Idealize.ShloMosaic.Lib.Pipeline.ValueKit
public import Idealize.ShloMosaic.Lib.StableHlo.ReadAt

@[expose] public section

set_option maxRecDepth 16384

noncomputable section

namespace Cert.Proof.Merge

open Cert.Kernel3Ideal Cert.Kernel3Ideal.Gen
open Idealize.ShloMosaic Idealize.ShloMosaic.TcCoe Idealize.SL.Sem

variable (m : (ℓ : Loc nD τ sig) → Buf (Elt Ideal) ℓ)

/-- The block every window reads at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] ∧ win0_14.index t = ![t.val, 0] :=
  (by decide +kernel : ∀ t : Fin grid0.N, _)

theorem tval (t : Fin cfg0.N) : t.val < 32 := lt_of_lt_of_eq t.isLt N_0

/-! ## The blocks a grid point reads, among the arguments -/

theorem x_at (c : Dev nD) (t : Fin cfg0.N) (r : Fin 512) (k : Fin 1024) :
    (show FVec Ideal S512x1024 .f32 from iblk m c 0 t) (ix2 r k) = (show FVec Ideal S4x4096x1024 .f32 from m ((c : Thread nD τ).loc main_arg0)) (ix3 ⟨(t.val * 512 + r.val) / 4096, by have := tval t; omega⟩ ⟨(t.val * 512 + r.val) % 4096, by omega⟩ k) := by
  blk_simp [iblk, idx t]
  entry_read
  pointwise
  blk_ext [idx t]

theorem att_at (c : Dev nD) (t : Fin cfg0.N) (r k : Fin 512) :
    (show FVec Ideal S512x512 .bf16 from iblk m c 1 t) (ix2 r k) = (show FVec Ideal S16384x512 .bf16 from m ((c : Thread nD τ).loc main_arg1)) (ix2 ⟨t.val * 512 + r.val, by have := tval t; omega⟩ k) := by
  blk_simp [iblk, idx t]
  entry_read
  pointwise
  blk_ext [idx t]

theorem sgu_at (c : Dev nD) (t : Fin cfg0.N) (r k : Fin 512) :
    (show FVec Ideal S512x512 .bf16 from iblk m c 2 t) (ix2 r k) = (show FVec Ideal S16384x512 .bf16 from m ((c : Thread nD τ).loc main_arg2)) (ix2 ⟨t.val * 512 + r.val, by have := tval t; omega⟩ k) := by
  blk_simp [iblk, idx t]
  entry_read
  pointwise
  blk_ext [idx t]

theorem u_at (c : Dev nD) (t : Fin cfg0.N) (r k : Fin 512) :
    (show FVec Ideal S512x512 .f32 from iblk m c 3 t) (ix2 r k) = (show FVec Ideal S16384x512 .f32 from m ((c : Thread nD τ).loc main_arg3)) (ix2 ⟨t.val * 512 + r.val, by have := tval t; omega⟩ k) := by
  blk_simp [iblk, idx t]
  entry_read
  pointwise
  blk_ext [idx t]

theorem fwd_at (c : Dev nD) (t : Fin cfg0.N) (r k : Fin 512) :
    (show FVec Ideal S512x512 .f32 from iblk m c 4 t) (ix2 r k) = (show FVec Ideal S16384x512 .f32 from m ((c : Thread nD τ).loc main_arg4)) (ix2 ⟨t.val * 512 + r.val, by have := tval t; omega⟩ k) := by
  blk_simp [iblk, idx t]
  entry_read
  pointwise
  blk_ext [idx t]

theorem bwd_at (c : Dev nD) (t : Fin cfg0.N) (r k : Fin 512) :
    (show FVec Ideal S512x512 .f32 from iblk m c 5 t) (ix2 r k) = (show FVec Ideal S16384x512 .f32 from m ((c : Thread nD τ).loc main_arg5)) (ix2 ⟨t.val * 512 + r.val, by have := tval t; omega⟩ k) := by
  blk_simp [iblk, idx t]
  entry_read
  pointwise
  blk_ext [idx t]

theorem gate_at (c : Dev nD) (t : Fin cfg0.N) (r : Fin 512) (k : Fin 3072) :
    (show FVec Ideal S512x3072 .f32 from iblk m c 6 t) (ix2 r k) = (show FVec Ideal S16384x3072 .f32 from m ((c : Thread nD τ).loc main_arg6)) (ix2 ⟨t.val * 512 + r.val, by have := tval t; omega⟩ k) := by
  blk_simp [iblk, idx t]
  entry_read
  pointwise
  blk_ext [idx t]

theorem skip_at (c : Dev nD) (t : Fin cfg0.N) (j : Fin 512) :
    (show FVec Ideal S1x512 .f32 from iblk m c 7 t) (ix2 0 j) = (show FVec Ideal S512 .f32 from m ((c : Thread nD τ).loc main_arg7)) (ix1 j) := by
  blk_simp [iblk, idx t]
  entry_read
  pointwise
  blk_ext [idx t]

theorem wg_at (c : Dev nD) (t : Fin cfg0.N) (k j : Fin 512) :
    (show FVec Ideal S512x512 .bf16 from iblk m c 8 t) (ix2 k j) = (show FVec Ideal S512x512 .f32 from m ((c : Thread nD τ).loc main_arg8)) (ix2 k j) := by
  blk_simp [iblk, idx t]
  entry_read
  pointwise
  blk_ext [idx t]

theorem bg_at (c : Dev nD) (t : Fin cfg0.N) (j : Fin 512) :
    (show FVec Ideal S1x512 .f32 from iblk m c 9 t) (ix2 0 j) = (show FVec Ideal S512 .f32 from m ((c : Thread nD τ).loc main_arg9)) (ix1 j) := by
  blk_simp [iblk, idx t]
  entry_read
  pointwise
  blk_ext [idx t]

theorem wb_at (c : Dev nD) (t : Fin cfg0.N) (i : Fin 3) (k : Fin 512) (d : Fin 1024) :
    (show FVec Ideal S3x512x1024 .bf16 from iblk m c 10 t) (ix3 i k d) = (show FVec Ideal S3x512x1024 .f32 from m ((c : Thread nD τ).loc main_arg10)) (ix3 i k d) := by
  blk_simp [iblk, idx t]
  entry_read
  pointwise
  blk_ext [idx t]

theorem wo_at (c : Dev nD) (t : Fin cfg0.N) (k d : Fin 1024) :
    (show FVec Ideal S1024x1024 .bf16 from iblk m c 11 t) (ix2 k d) = (show FVec Ideal S1024x1024 .f32 from m ((c : Thread nD τ).loc main_arg11)) (ix2 k d) := by
  blk_simp [iblk, idx t]
  entry_read
  pointwise
  blk_ext [idx t]

theorem g_at (c : Dev nD) (t : Fin cfg0.N) (j : Fin 1024) :
    (show FVec Ideal S1x1024 .f32 from iblk m c 12 t) (ix2 0 j) = (show FVec Ideal S1024 .f32 from m ((c : Thread nD τ).loc main_arg12)) (ix1 j) := by
  blk_simp [iblk, idx t]
  entry_read
  pointwise
  blk_ext [idx t]

theorem b_at (c : Dev nD) (t : Fin cfg0.N) (j : Fin 1024) :
    (show FVec Ideal S1x1024 .f32 from iblk m c 13 t) (ix2 0 j) = (show FVec Ideal S1024 .f32 from m ((c : Thread nD τ).loc main_arg13)) (ix1 j) := by
  blk_simp [iblk, idx t]
  entry_read
  pointwise
  blk_ext [idx t]

end Cert.Proof.Merge
-- ==== Proof.MergeVal.lean ====
/-
  The array the gated merge writes is the reference's result.
-/
module

public import proofs.«01_k».proof.Proof.MergeBlocks

@[expose] public section

set_option maxRecDepth 16384

noncomputable section

namespace Cert.Proof.Merge

open Cert.Kernel3Ideal Cert.Kernel3Ideal.Gen
open Idealize.ShloMosaic Idealize.ShloMosaic.TcCoe Idealize.SL.Sem

variable (m : (ℓ : Loc nD τ sig) → Buf (Elt Ideal) ℓ)

/-- The state space branch of a grid point's rows before its activation. -/
def yK (u : FVec Ideal S512x512 .f32) (s : FVec Ideal S1x512 .f32) (f b : FVec Ideal S512x512 .f32) (r j : Fin 512) : EReal :=
  u (ix2 r j) * s (ix2 0 j) + f (ix2 r j) + b (ix2 r j)

/-- The kernel's state space branch at an index. -/
theorem pay2_at (u : FVec Ideal S512x512 .f32) (s : FVec Ideal S1x512 .f32) (f b : FVec Ideal S512x512 .f32)
    (w : FVec Ideal S512x512 .bf16) (g : FVec Ideal S1x512 .f32) (r j : Fin 512) :
    k0_pay2 (F := Ideal) u s f b w g (ix2 r j) = gelu (yK u s f b r j)
      * Ideal.div 1 (1 + Ideal.exp (0 - (∑ x : Fin 512, gelu (yK u s f b r x) * w (ix2 x j) + g (ix2 0 j)))) := by
  simp only [← gelu_kernel]
  pointwise [k0_pay2, yK, IdealRules.named_const.ideal_named_scalar Cert.Kernel3Ideal.κ "gelu_c3" _ _ rfl]

theorem y_at (c : Dev nD) (t : Fin cfg0.N) (r j : Fin 512) :
    gelu (yK (iblk m c 3 t) (iblk m c 7 t) (iblk m c 4 t) (iblk m c 5 t) r j)
      = refY (m ((c : Thread nD τ).loc main_arg3)) (m ((c : Thread nD τ).loc main_arg4)) (m ((c : Thread nD τ).loc main_arg5)) (m ((c : Thread nD τ).loc main_arg7)) (ix3 ⟨(t.val * 512 + r.val) / 4096, by have := tval t; omega⟩ ⟨(t.val * 512 + r.val) % 4096, by omega⟩ j) := by
  rw [refY_at, refYpre_at]
  unfold yK
  have ht := tval t
  refine congrArg gelu (congrArg₂ (· + ·) (congrArg₂ (· + ·) (congrArg₂ (· * ·) ((u_at m c t r j).trans ?_) (skip_at m c t j)) ((fwd_at m c t r j).trans ?_))
    ((bwd_at m c t r j).trans ?_))
  all_goals blk_ext

/-- The state space branch of a grid point's rows is the reference's. -/
theorem s5_at (c : Dev nD) (t : Fin cfg0.N) (r j : Fin 512) :
    (k0_pay2 (F := Ideal) (iblk m c 3 t) (iblk m c 7 t) (iblk m c 4 t) (iblk m c 5 t) (iblk m c 8 t) (iblk m c 9 t)) (ix2 r j)
      = refS5 (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (ix3 ⟨(t.val * 512 + r.val) / 4096, by have := tval t; omega⟩ ⟨(t.val * 512 + r.val) % 4096, by omega⟩ j) := by
  rw [refS5_at]
  refine (pay2_at _ _ _ _ _ _ r j).trans ?_
  refine congrArg₂ (· * ·) (y_at m c t r j) (congrArg (fun z => Ideal.div 1 (1 + Ideal.exp (0 - z))) ?_)
  exact congrArg₂ (· + ·) (Finset.sum_congr rfl fun x _ => congrArg₂ (· * ·) (y_at m c t r x) (wg_at m c t x j)) (bg_at m c t j)

/-- The three gated branches of a row, summed: `z` is the third branch. -/
def mixK (z p q : FVec Ideal S512x512 .bf16) (w : FVec Ideal S3x512x1024 .bf16) (g : FVec Ideal S512x3072 .f32) (r : Fin 512) (d : Fin 1024) : EReal :=
  g (ix2 r ⟨d.val, by omega⟩) * (∑ x : Fin 512, p (ix2 r x) * w (ix3 0 x d))
    + g (ix2 r ⟨1024 + d.val, by omega⟩) * (∑ x : Fin 512, q (ix2 r x) * w (ix3 1 x d))
    + g (ix2 r ⟨2048 + d.val, by omega⟩) * (∑ x : Fin 512, z (ix2 r x) * w (ix3 2 x d))

/-- The kernel's product beside the residual, at an index. -/
theorem pay3_at (z p q : FVec Ideal S512x512 .bf16) (w : FVec Ideal S3x512x1024 .bf16) (g : FVec Ideal S512x3072 .f32)
    (o : FVec Ideal S1024x1024 .bf16) (v : FVec Ideal S512x1024 .f32) (r : Fin 512) (d : Fin 1024) :
    (k0_pay3 (F := Ideal) z p q (View.ld w (Rect.unit (s := S3x512x1024) ![0, 0, 0] S1x512x1024.size inb_S3x512x1024_S1x512x1024_0_0_0)) (View.ld g (Rect.unit (s := S512x3072) ![0, 0] S512x1024.size inb_S512x3072_S512x1024_0_0)) (View.ld w (Rect.unit (s := S3x512x1024) ![1, 0, 0] S1x512x1024.size inb_S3x512x1024_S1x512x1024_1_0_0)) (View.ld g (Rect.unit (s := S512x3072) ![0, 1024] S512x1024.size inb_S512x3072_S512x1024_0_1024)) (View.ld w (Rect.unit (s := S3x512x1024) ![2, 0, 0] S1x512x1024.size inb_S3x512x1024_S1x512x1024_2_0_0)) (View.ld g (Rect.unit (s := S512x3072) ![0, 2048] S512x1024.size inb_S512x3072_S512x1024_0_2048)) o v) (ix2 r d)
      = Ideal.ofBits .f32 0x3FD744FD#32 * v (ix2 r d) + ∑ x : Fin 1024, mixK z p q w g r x * o (ix2 x d) := by
  pointwise [k0_pay3, mixK]

theorem mix_at (c : Dev nD) (t : Fin cfg0.N) (r : Fin 512) (d : Fin 1024) :
    mixK (k0_pay2 (F := Ideal) (iblk m c 3 t) (iblk m c 7 t) (iblk m c 4 t) (iblk m c 5 t) (iblk m c 8 t) (iblk m c 9 t)) (iblk m c 1 t) (iblk m c 2 t) (iblk m c 10 t) (iblk m c 6 t) r d
      = refMix (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 ⟨(t.val * 512 + r.val) / 4096, by have := tval t; omega⟩ ⟨(t.val * 512 + r.val) % 4096, by omega⟩ d) := by
  rw [refMix_at]
  unfold mixK
  have ht := tval t
  refine congrArg₂ (· + ·) (congrArg₂ (· + ·)
    (congrArg₂ (· * ·) ((gate_at m c t r _).trans ?_) (Finset.sum_congr rfl fun x _ => congrArg₂ (· * ·) ((att_at m c t r x).trans ?_) (wb_at m c t 0 x d)))
    (congrArg₂ (· * ·) ((gate_at m c t r _).trans ?_) (Finset.sum_congr rfl fun x _ => congrArg₂ (· * ·) ((sgu_at m c t r x).trans ?_) (wb_at m c t 1 x d))))
    (congrArg₂ (· * ·) ((gate_at m c t r _).trans ?_) (Finset.sum_congr rfl fun x _ => congrArg₂ (· * ·) (s5_at m c t r x) (wb_at m c t 2 x d)))
  all_goals blk_ext

/-- A grid point's rows before the layer norm are the reference's. -/
theorem res_at (c : Dev nD) (t : Fin cfg0.N) (r : Fin 512) (d : Fin 1024) :
    (k0_pay3 (F := Ideal) (k0_pay2 (F := Ideal) (iblk m c 3 t) (iblk m c 7 t) (iblk m c 4 t) (iblk m c 5 t) (iblk m c 8 t) (iblk m c 9 t)) (iblk m c 1 t) (iblk m c 2 t) (View.ld (iblk m c 10 t) (Rect.unit (s := S3x512x1024) ![0, 0, 0] S1x512x1024.size inb_S3x512x1024_S1x512x1024_0_0_0)) (View.ld (iblk m c 6 t) (Rect.unit (s := S512x3072) ![0, 0] S512x1024.size inb_S512x3072_S512x1024_0_0)) (View.ld (iblk m c 10 t) (Rect.unit (s := S3x512x1024) ![1, 0, 0] S1x512x1024.size inb_S3x512x1024_S1x512x1024_1_0_0)) (View.ld (iblk m c 6 t) (Rect.unit (s := S512x3072) ![0, 1024] S512x1024.size inb_S512x3072_S512x1024_0_1024)) (View.ld (iblk m c 10 t) (Rect.unit (s := S3x512x1024) ![2, 0, 0] S1x512x1024.size inb_S3x512x1024_S1x512x1024_2_0_0)) (View.ld (iblk m c 6 t) (Rect.unit (s := S512x3072) ![0, 2048] S512x1024.size inb_S512x3072_S512x1024_0_2048)) (iblk m c 11 t) (iblk m c 0 t)) (ix2 r d)
      = refRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 ⟨(t.val * 512 + r.val) / 4096, by have := tval t; omega⟩ ⟨(t.val * 512 + r.val) % 4096, by omega⟩ d) := by
  rw [refRes_at]
  refine (pay3_at _ _ _ _ _ _ _ r d).trans ?_
  exact congrArg₂ (· + ·) (congrArg (_ * ·) (x_at m c t r d)) (Finset.sum_congr rfl fun x _ => congrArg₂ (· * ·) (mix_at m c t r x) (wo_at m c t x d))

/-- The kernel's layer norm at an index. -/
theorem norm_at (v : FVec Ideal S512x1024 .f32) (g b : FVec Ideal S1x1024 .f32) (r : Fin 512) (j : Fin 1024) :
    k0_pay1 (F := Ideal) v (k0_pay4 g) b (ix2 r j) = lnorm (Ideal.ofBits .f32 0x44800000#32) (Ideal.ofBits .f32 0x3727C5AC#32)
      (fun k : Fin 1024 => v (ix2 r k)) (g (ix2 0 j)) (b (ix2 0 j)) j := by
  pointwise [k0_pay1, k0_pay4, lnorm]

theorem out_at (c : Dev nD) (t : Fin cfg0.N) (r : Fin 512) (j : Fin 1024) :
    k0_pay1 (F := Ideal) (k0_pay3 (F := Ideal) (k0_pay2 (F := Ideal) (iblk m c 3 t) (iblk m c 7 t) (iblk m c 4 t) (iblk m c 5 t) (iblk m c 8 t) (iblk m c 9 t)) (iblk m c 1 t) (iblk m c 2 t) (View.ld (iblk m c 10 t) (Rect.unit (s := S3x512x1024) ![0, 0, 0] S1x512x1024.size inb_S3x512x1024_S1x512x1024_0_0_0)) (View.ld (iblk m c 6 t) (Rect.unit (s := S512x3072) ![0, 0] S512x1024.size inb_S512x3072_S512x1024_0_0)) (View.ld (iblk m c 10 t) (Rect.unit (s := S3x512x1024) ![1, 0, 0] S1x512x1024.size inb_S3x512x1024_S1x512x1024_1_0_0)) (View.ld (iblk m c 6 t) (Rect.unit (s := S512x3072) ![0, 1024] S512x1024.size inb_S512x3072_S512x1024_0_1024)) (View.ld (iblk m c 10 t) (Rect.unit (s := S3x512x1024) ![2, 0, 0] S1x512x1024.size inb_S3x512x1024_S1x512x1024_2_0_0)) (View.ld (iblk m c 6 t) (Rect.unit (s := S512x3072) ![0, 2048] S512x1024.size inb_S512x3072_S512x1024_0_2048)) (iblk m c 11 t) (iblk m c 0 t)) (k0_pay4 (iblk m c 12 t)) (iblk m c 13 t) (ix2 r j)
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 ⟨t.val * 512 + r.val, by have := tval t; omega⟩ j) := by
  rw [refOut_at]
  refine (norm_at _ _ _ r j).trans ?_
  exact lnorm_congr (fun k => res_at m c t r k) (g_at m c t j) (b_at m c t j)

theorem final14 (c : Dev nD) : (dats m 0 c).arrAt 14 (cfgs 0).N
    = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]; frame_out
  refine Eq.trans (congrArg _ (?_ : _ = ix2 (y 0 : Fin 512) (y 1 : Fin 1024))) ((out_at m c t (y 0) (y 1)).trans (congrArg _ ?_))
  · blk_ext
  · blk_ext [idx t]

end Cert.Proof.Merge
-- ==== Proof.lean ====
/-
  The attention call of the layer, its input projection and its gated merge: of each, both kernel programs run and end
  quiet, the reference runs, and the kernel's arrays are the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Reference2Ideal
public import proofs.«01_k».proof.Proof.Gen.Reference2Ideal.Run
public import proofs.«01_k».proof.Proof.Gen.Kernel2Ideal
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Reference3Ideal
public import proofs.«01_k».proof.Proof.Gen.Reference3Ideal.Run
public import proofs.«01_k».proof.Proof.Gen.Kernel3Ideal
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Frames
public import proofs.«01_k».proof.Proof.Final
public import proofs.«01_k».proof.Proof.Finite
public import proofs.«01_k».proof.Proof.InProjVal
public import proofs.«01_k».proof.Proof.MergeVal

@[expose] public section

namespace Cert.Proof

open Idealize.ShloMosaic Idealize.ShloMosaic.TcCoe Idealize.SL.Sem

attribute [local instance] Attn.preFacts

/-- The reference keeps its arguments, and has no counters. -/
theorem frame_Reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, and both keep their arguments. -/
theorem algebraic : Cert.algebraic_KernelIdeal_ReferenceIdeal_pre_finite_arguments (hKernelIdeal := Cert.KernelIdeal.Gen.facts)
    (hReferenceIdeal := Cert.ReferenceIdeal.Gen.facts) (hPre_finite_arguments := Attn.preFacts) := fun m g m' g' hpre heq => by
  have hfin : ∀ c : Dev Cert.KernelIdeal.nD, (Attn.dats m 0 c).arrAt 6 Cert.KernelIdeal.cfg0.N = Attn.refOut m c := fun c => by
    obtain ⟨p0, p1, p2, p3, p4, p5⟩ := hpre c
    have hx := fun a b => Attn.real0 _ _ _ _ _ _ _ p0 a b
    choose x hx using hx
    obtain ⟨lam, hL⟩ := Attn.lambda_real _ _ _ _ _ (Attn.real1 _ _ _ _ _ _ _ p1) (Attn.real2 _ _ _ _ _ _ _ p2) (Attn.real3 _ _ _ _ _ _ _ p3)
      (Attn.real4 _ _ _ _ _ _ _ p4) (Attn.real5 _ _ _ _ _ _ _ p5)
    exact Attn.final m c x lam hx hL
  refine ⟨fun c => Attn.refOut m c, ?_, ?_⟩
  · exact (θ_run Cert.KernelIdeal.defs _ _).mono (fun _ h c => ⟨((h.1 c).1 6).trans (hfin c), Attn.args_kept m _ h.1 c⟩) (Attn.run_main_quiescent m g)
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6⟩ := heq c
    rw [Ref.res_eq, e0, e1, e2, e3, e4, e5, e6]
    rfl

/-- The reference of the input projection keeps its arguments, and has no counters. -/
theorem frame_Reference2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The reference of the gated merge keeps its arguments, and has no counters. -/
theorem frame_Reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The four arrays of the input projection are the reference's, and both keep their arguments. -/
theorem algebraic2 : Cert.algebraic_Kernel2Ideal_Reference2Ideal (hKernel2Ideal := Cert.Kernel2Ideal.Gen.facts)
    (hReference2Ideal := Cert.Reference2Ideal.Gen.facts) := fun m g m' g' _ heq => by
  refine ⟨fun c => InProj.refQkv (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => InProj.refSgu (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)),
    fun c => InProj.refU (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => InProj.refGate (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run Cert.Kernel2Ideal.defs _ _).mono (fun _ h c => ⟨((h.1 c).1 7).trans (InProj.final7 m c), ((h.1 c).1 8).trans (InProj.final8 m c),
      ((h.1 c).1 9).trans (InProj.final9 m c), ((h.1 c).1 10).trans (InProj.final10 m c), h.2 c⟩)
      (θ_run_and (Cert.Kernel2Ideal.Gen.run_main m g) (Cert.Kernel2Ideal.Gen.unchanged m g))
  · refine (θ_run Cert.Reference2Ideal.defs _ _).mono (fun _ h c => ⟨(h c).1.trans ?_, (h c).2.1.trans ?_, (h c).2.2.1.trans ?_, (h c).2.2.2.1.trans ?_, (h c).2.2.2.2⟩)
      (Cert.Reference2Ideal.Value.run (F := Ideal) m' g')
    all_goals
      obtain ⟨e0, e1, e2, e3, e4, e5, e6⟩ := heq c
    · rw [e0, e1]; rfl
    · unfold Cert.Reference2Ideal.Value.res_main_v69
      rw [e0, e1, e3, e4, e5, e6]; rfl
    · rw [e0, e1]; rfl
    · rw [e0, e1, e2]; rfl

/-- The array of the gated merge is the reference's, and both keep their arguments. -/
theorem algebraic3 : Cert.algebraic_Kernel3Ideal_Reference3Ideal (hKernel3Ideal := Cert.Kernel3Ideal.Gen.facts)
    (hReference3Ideal := Cert.Reference3Ideal.Gen.facts) := fun m g m' g' _ heq => by
  refine ⟨fun c => Merge.refOut (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)), ?_, ?_⟩
  · exact (θ_run Cert.Kernel3Ideal.defs _ _).mono (fun _ h c => ⟨((h.1 c).1 14).trans (Merge.final14 m c), h.2 c⟩)
      (θ_run_and (Cert.Kernel3Ideal.Gen.run_main m g) (Cert.Kernel3Ideal.Gen.unchanged m g))
  · refine (θ_run Cert.Reference3Ideal.defs _ _).mono (fun _ h c => ⟨(h c).1.trans ?_, (h c).2⟩)
      (Cert.Reference3Ideal.Value.run (F := Ideal) m' g')
    obtain ⟨e0, e1, e2, e3, e4, e5, e6, e7, e8, e9, e10, e11, e12, e13⟩ := heq c
    unfold Cert.Reference3Ideal.Value.res_main_v71
    rw [e0, e1, e2, e3, e4, e5, e6, e7, e8, e9, e10, e11, e12, e13]
    rfl

/-- The certificate's claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Attn.preFacts,
    Attn.frame_Kernel, Attn.frame_KernelIdeal, fun m g _ => Attn.frame_KernelIdeal m g trivial,
    frame_Reference, fun m g _ => frame_Reference m g trivial,
    fun m ρ _ => Cert.Kernel2.Gen.frame m ρ, fun m ρ _ => Cert.Kernel2Ideal.Gen.frame m ρ, frame_Reference2,
    fun m ρ _ => Cert.Kernel3.Gen.frame m ρ, fun m ρ _ => Cert.Kernel3Ideal.Gen.frame m ρ, frame_Reference3,
    trivial, algebraic,
    IdealRules.named_const.statement Cert.Kernel2Ideal.κ "gelu_c3" .f32 0x3D122279#32 _ rfl, algebraic2,
    IdealRules.named_const.statement Cert.Kernel3Ideal.κ "gelu_c3" .f32 0x3D122279#32 _ rfl, algebraic3⟩

end Cert.Proof
